-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S2048x2048 : Shape := ⟨2, ![2048, 2048]⟩
abbrev S2x6x128x2048 : Shape := ⟨4, ![2, 6, 128, 2048]⟩
abbrev S2x12 : Shape := ⟨2, ![2, 12]⟩
abbrev S_ : Shape := ⟨0, ![]⟩
abbrev S128x512 : Shape := ⟨2, ![128, 512]⟩
abbrev S128x2048 : Shape := ⟨2, ![128, 2048]⟩
abbrev S1x1 : Shape := ⟨2, ![1, 1]⟩
abbrev S1x1x128x2048 : Shape := ⟨4, ![1, 1, 128, 2048]⟩

abbrev nBuf : Space → Nat
  | .hbm => 3
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .local _ .vmem, ⟨0, _⟩ => ⟨S2048x512, .f32⟩
  | .local _ .vmem, ⟨1, _⟩ => ⟨S512x2048, .f32⟩
  | .local _ .vmem, ⟨2, _⟩ => ⟨S2048x2048, .f32⟩
  | .local _ .vmem, ⟨3, _⟩ => ⟨S2x6x128x2048, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let c4_i32_10 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.muli c4_i32_10 v2
  let v14 : BitVec 32 := Scalar.addi v13 c0_i32_11
  let c128_i32 : BitVec 32 := 128#32
  let v15 : BitVec 32 := Scalar.muli v14 c128_i32
  let v16 : Index := Scalar.indexCast v15
  let c0 : Index := 0#32
  ![v16.toNat, 0]
def k0_off2 (d0 : Dev nD) (c0_i32_11 : BitVec 32) : Fin 2 → Nat :=
  let c4_i32_10 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.muli c4_i32_10 v2
  let v14 : BitVec 32 := Scalar.addi v13 c0_i32_11
  let c128_i32_14 : BitVec 32 := 128#32
  let v22 : BitVec 32 := Scalar.muli v14 c128_i32_14
  let v23 : Index := Scalar.indexCast v22
  let c0_15 : Index := 0#32
  ![v23.toNat, 0]
def k0_off3 (d0 : Dev nD) (c0_i32_42 : BitVec 32) (c0_i32_47 : BitVec 32) : Fin 2 → Nat :=
  let c4_i32_45 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v61 : BitVec 32 := Scalar.subi v2 c0_i32_42
  let c4_i32_43 : BitVec 32 := 4#32
  let v62 : BitVec 32 := Scalar.addi v61 c4_i32_43
  let c4_i32_44 : BitVec 32 := 4#32
  let v63 : BitVec 32 := Scalar.remsi v62 c4_i32_44
  let v64 : BitVec 32 := Scalar.muli c4_i32_45 v63
  let c0_i32_46 : BitVec 32 := 0#32
  let v65 : BitVec 32 := Scalar.addi v64 c0_i32_46
  let v66 : BitVec 32 := Scalar.addi v65 c0_i32_47
  let c128_i32_48 : BitVec 32 := 128#32
  let v67 : BitVec 32 := Scalar.muli v66 c128_i32_48
  let c0_i32_59 : BitVec 32 := 0#32
  ![v67.toNat, 0]
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_55 : BitVec 32 := 1#32
  let v68 : BitVec 32 := Scalar.muli v7 c1_i32_55
  let v69 : BitVec 32 := Scalar.addi c0_i32_56 v68
  v69.toNat
def k0_off4 (d0 : Dev nD) (c0_i32_60 : BitVec 32) (c0_i32_64 : BitVec 32) : Fin 2 → Nat :=
  let c4_i32_62 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v77 : BitVec 32 := Scalar.addi v2 c0_i32_60
  let c4_i32_61 : BitVec 32 := 4#32
  let v78 : BitVec 32 := Scalar.remsi v77 c4_i32_61
  let v79 : BitVec 32 := Scalar.muli c4_i32_62 v78
  let c2_i32_63 : BitVec 32 := 2#32
  let v80 : BitVec 32 := Scalar.addi v79 c2_i32_63
  let v81 : BitVec 32 := Scalar.addi v80 c0_i32_64
  let c128_i32_65 : BitVec 32 := 128#32
  let v82 : BitVec 32 := Scalar.muli v81 c128_i32_65
  let c0_i32_76 : BitVec 32 := 0#32
  ![v82.toNat, 0]
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_72 : BitVec 32 := 1#32
  let v83 : BitVec 32 := Scalar.muli v5 c1_i32_72
  let v84 : BitVec 32 := Scalar.addi c0_i32_73 v83
  v84.toNat
def k0_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_90 : BitVec 32 := 1#32
  let v99 : BitVec 32 := Scalar.muli v7 c1_i32_90
  let v100 : BitVec 32 := Scalar.addi c0_i32_91 v99
  v100.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_107 : BitVec 32 := 1#32
  let v114 : BitVec 32 := Scalar.muli v5 c1_i32_107
  let v115 : BitVec 32 := Scalar.addi c0_i32_108 v114
  v115.toNat
def k0_off5 (d0 : Dev nD) (c1_i32_112 : BitVec 32) (c0_i32_115 : BitVec 32) : Fin 2 → Nat :=
  let c4_i32_114 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v123 : BitVec 32 := Scalar.addi v2 c1_i32_112
  let c4_i32_113 : BitVec 32 := 4#32
  let v124 : BitVec 32 := Scalar.remsi v123 c4_i32_113
  let v125 : BitVec 32 := Scalar.muli c4_i32_114 v124
  let v126 : BitVec 32 := Scalar.addi v125 c0_i32_115
  let c128_i32_116 : BitVec 32 := 128#32
  let v127 : BitVec 32 := Scalar.muli v126 c128_i32_116
  let v128 : Index := Scalar.indexCast v127
  let c0_117 : Index := 0#32
  ![v128.toNat, 0]
def k0_off6 (d0 : Dev nD) (c1_i32_112 : BitVec 32) (c0_i32_115 : BitVec 32) : Fin 2 → Nat :=
  let c4_i32_114 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v123 : BitVec 32 := Scalar.addi v2 c1_i32_112
  let c4_i32_113 : BitVec 32 := 4#32
  let v124 : BitVec 32 := Scalar.remsi v123 c4_i32_113
  let v125 : BitVec 32 := Scalar.muli c4_i32_114 v124
  let v126 : BitVec 32 := Scalar.addi v125 c0_i32_115
  let c128_i32_121 : BitVec 32 := 128#32
  let v134 : BitVec 32 := Scalar.muli v126 c128_i32_121
  let v135 : Index := Scalar.indexCast v134
  let c0_122 : Index := 0#32
  ![v135.toNat, 0]
def k0_off7 (d0 : Dev nD) (c0_i32_255 : BitVec 32) (c0_i32_261 : BitVec 32) : Fin 2 → Nat :=
  let c4_i32_259 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v298 : BitVec 32 := Scalar.subi v2 c0_i32_255
  let c1_i32_256 : BitVec 32 := 1#32
  let v299 : BitVec 32 := Scalar.subi v298 c1_i32_256
  let c4_i32_257 : BitVec 32 := 4#32
  let v300 : BitVec 32 := Scalar.addi v299 c4_i32_257
  let c4_i32_258 : BitVec 32 := 4#32
  let v301 : BitVec 32 := Scalar.remsi v300 c4_i32_258
  let v302 : BitVec 32 := Scalar.muli c4_i32_259 v301
  let c0_i32_260 : BitVec 32 := 0#32
  let v303 : BitVec 32 := Scalar.addi v302 c0_i32_260
  let v304 : BitVec 32 := Scalar.addi v303 c0_i32_261
  let c128_i32_262 : BitVec 32 := 128#32
  let v305 : BitVec 32 := Scalar.muli v304 c128_i32_262
  let v306 : Index := Scalar.indexCast v305
  let c0_263 : Index := 0#32
  ![v306.toNat, 0]
def k0_dev7 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_282 : BitVec 32 := 1#32
  let v321 : BitVec 32 := Scalar.muli v7 c1_i32_282
  let v322 : BitVec 32 := Scalar.addi c0_i32_283 v321
  v322.toNat
def k0_off8 (d0 : Dev nD) (c0_i32_298 : BitVec 32) (c0_i32_303 : BitVec 32) : Fin 2 → Nat :=
  let c4_i32_301 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v337 : BitVec 32 := Scalar.addi v2 c0_i32_298
  let c1_i32_299 : BitVec 32 := 1#32
  let v338 : BitVec 32 := Scalar.addi v337 c1_i32_299
  let c4_i32_300 : BitVec 32 := 4#32
  let v339 : BitVec 32 := Scalar.remsi v338 c4_i32_300
  let v340 : BitVec 32 := Scalar.muli c4_i32_301 v339
  let c2_i32_302 : BitVec 32 := 2#32
  let v341 : BitVec 32 := Scalar.addi v340 c2_i32_302
  let v342 : BitVec 32 := Scalar.addi v341 c0_i32_303
  let c128_i32_304 : BitVec 32 := 128#32
  let v343 : BitVec 32 := Scalar.muli v342 c128_i32_304
  let v344 : Index := Scalar.indexCast v343
  let c0_305 : Index := 0#32
  ![v344.toNat, 0]
def k0_dev8 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_322 : BitVec 32 := 1#32
  let v358 : BitVec 32 := Scalar.muli v5 c1_i32_322
  let v359 : BitVec 32 := Scalar.addi c0_i32_323 v358
  v359.toNat
def k0_dev9 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_365 : BitVec 32 := 1#32
  let v397 : BitVec 32 := Scalar.muli v7 c1_i32_365
  let v398 : BitVec 32 := Scalar.addi c0_i32_366 v397
  v398.toNat
def k0_dev10 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_406 : BitVec 32 := 1#32
  let v434 : BitVec 32 := Scalar.muli v5 c1_i32_406
  let v435 : BitVec 32 := Scalar.addi c0_i32_407 v434
  v435.toNat
def k0_dev11 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_448 : BitVec 32 := 1#32
  let v473 : BitVec 32 := Scalar.muli v7 c1_i32_448
  let v474 : BitVec 32 := Scalar.addi c0_i32_449 v473
  v474.toNat
def k0_dev12 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_489 : BitVec 32 := 1#32
  let v510 : BitVec 32 := Scalar.muli v5 c1_i32_489
  let v511 : BitVec 32 := Scalar.addi c0_i32_490 v510
  v511.toNat
def k0_dev13 (d0 : Dev nD) : Nat :=
  let c0_i32_531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_530 : BitVec 32 := 1#32
  let v549 : BitVec 32 := Scalar.muli v7 c1_i32_530
  let v550 : BitVec 32 := Scalar.addi c0_i32_531 v549
  v550.toNat
def k0_dev14 (d0 : Dev nD) : Nat :=
  let c0_i32_572 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_571 : BitVec 32 := 1#32
  let v586 : BitVec 32 := Scalar.muli v5 c1_i32_571
  let v587 : BitVec 32 := Scalar.addi c0_i32_572 v586
  v587.toNat
def k0_off9 (d0 : Dev nD) (c0_i32_601 : BitVec 32) (c0_i32_606 : BitVec 32) : Fin 2 → Nat :=
  let c4_i32_604 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_600 : BitVec 32 := 1#32
  let v618 : BitVec 32 := Scalar.addi v2 c1_i32_600
  let v619 : BitVec 32 := Scalar.subi v618 c0_i32_601
  let c4_i32_602 : BitVec 32 := 4#32
  let v620 : BitVec 32 := Scalar.addi v619 c4_i32_602
  let c4_i32_603 : BitVec 32 := 4#32
  let v621 : BitVec 32 := Scalar.remsi v620 c4_i32_603
  let v622 : BitVec 32 := Scalar.muli c4_i32_604 v621
  let c0_i32_605 : BitVec 32 := 0#32
  let v623 : BitVec 32 := Scalar.addi v622 c0_i32_605
  let v624 : BitVec 32 := Scalar.addi v623 c0_i32_606
  let c128_i32_608 : BitVec 32 := 128#32
  let v626 : BitVec 32 := Scalar.muli v624 c128_i32_608
  let c0_i32_614 : BitVec 32 := 0#32
  ![v626.toNat, 0]
def k0_dev15 (d0 : Dev nD) : Nat :=
  let c0_i32_613 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_612 : BitVec 32 := 1#32
  let v627 : BitVec 32 := Scalar.muli v7 c1_i32_612
  let v628 : BitVec 32 := Scalar.addi c0_i32_613 v627
  v628.toNat
def k0_off10 (d0 : Dev nD) (c0_i32_641 : BitVec 32) (c0_i32_646 : BitVec 32) : Fin 2 → Nat :=
  let c4_i32_644 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_640 : BitVec 32 := 1#32
  let v657 : BitVec 32 := Scalar.subi v2 c1_i32_640
  let v658 : BitVec 32 := Scalar.addi v657 c0_i32_641
  let c4_i32_642 : BitVec 32 := 4#32
  let v659 : BitVec 32 := Scalar.addi v658 c4_i32_642
  let c4_i32_643 : BitVec 32 := 4#32
  let v660 : BitVec 32 := Scalar.remsi v659 c4_i32_643
  let v661 : BitVec 32 := Scalar.muli c4_i32_644 v660
  let c2_i32_645 : BitVec 32 := 2#32
  let v662 : BitVec 32 := Scalar.addi v661 c2_i32_645
  let v663 : BitVec 32 := Scalar.addi v662 c0_i32_646
  let c128_i32_648 : BitVec 32 := 128#32
  let v665 : BitVec 32 := Scalar.muli v663 c128_i32_648
  let c0_i32_655 : BitVec 32 := 0#32
  ![v665.toNat, 0]
def k0_dev16 (d0 : Dev nD) : Nat :=
  let c0_i32_654 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_653 : BitVec 32 := 1#32
  let v666 : BitVec 32 := Scalar.muli v5 c1_i32_653
  let v667 : BitVec 32 := Scalar.addi c0_i32_654 v666
  v667.toNat
def k0_dev17 (d0 : Dev nD) : Nat :=
  let c0_i32_694 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_693 : BitVec 32 := 1#32
  let v706 : BitVec 32 := Scalar.muli v7 c1_i32_693
  let v707 : BitVec 32 := Scalar.addi c0_i32_694 v706
  v707.toNat
def k0_dev18 (d0 : Dev nD) : Nat :=
  let c0_i32_735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_734 : BitVec 32 := 1#32
  let v745 : BitVec 32 := Scalar.muli v5 c1_i32_734
  let v746 : BitVec 32 := Scalar.addi c0_i32_735 v745
  v746.toNat
def k0_dev19 (d0 : Dev nD) : Nat :=
  let c0_i32_759 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_758 : BitVec 32 := 1#32
  let v768 : BitVec 32 := Scalar.muli v7 c1_i32_758
  let v769 : BitVec 32 := Scalar.addi c0_i32_759 v768
  v769.toNat
def k0_dev20 (d0 : Dev nD) : Nat :=
  let c0_i32_784 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_783 : BitVec 32 := 1#32
  let v791 : BitVec 32 := Scalar.muli v5 c1_i32_783
  let v792 : BitVec 32 := Scalar.addi c0_i32_784 v791
  v792.toNat
def k0_dev21 (d0 : Dev nD) : Nat :=
  let c0_i32_808 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_807 : BitVec 32 := 1#32
  let v814 : BitVec 32 := Scalar.muli v7 c1_i32_807
  let v815 : BitVec 32 := Scalar.addi c0_i32_808 v814
  v815.toNat
def k0_dev22 (d0 : Dev nD) : Nat :=
  let c0_i32_833 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_832 : BitVec 32 := 1#32
  let v837 : BitVec 32 := Scalar.muli v5 c1_i32_832
  let v838 : BitVec 32 := Scalar.addi c0_i32_833 v837
  v838.toNat
def k0_dev23 (d0 : Dev nD) : Nat :=
  let c0_i32_857 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_856 : BitVec 32 := 1#32
  let v860 : BitVec 32 := Scalar.muli v7 c1_i32_856
  let v861 : BitVec 32 := Scalar.addi c0_i32_857 v860
  v861.toNat
def k0_dev24 (d0 : Dev nD) : Nat :=
  let c0_i32_882 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_881 : BitVec 32 := 1#32
  let v883 : BitVec 32 := Scalar.muli v5 c1_i32_881
  let v884 : BitVec 32 := Scalar.addi c0_i32_882 v883
  v884.toNat
def k0_dev25 (d0 : Dev nD) : Nat :=
  let c0_i32_906 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_905 : BitVec 32 := 1#32
  let v906 : BitVec 32 := Scalar.muli v7 c1_i32_905
  let v907 : BitVec 32 := Scalar.addi c0_i32_906 v906
  v907.toNat
def k0_dev26 (d0 : Dev nD) : Nat :=
  let c0_i32_931 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_930 : BitVec 32 := 1#32
  let v929 : BitVec 32 := Scalar.muli v5 c1_i32_930
  let v930 : BitVec 32 := Scalar.addi c0_i32_931 v929
  v930.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Slots.lean ====
/-
# The ring, the row slots and the semaphores

Four devices stand in a ring. There are twenty-four transfers per device, numbered by `i` in the order the
kernel starts them. The parity of `i` is the way round the ring it goes (even: to the next device; odd: to the
previous one), `i / 4` is its stage (stages 0, 1, 2 add up partial products, stages 3, 4, 5 spread the sums), and
`i % 4` is its class: transfer `i + 4` forwards, one stage later, what transfer `i` brought.

This module has the arithmetic of the ring, the four-by-four row slots of the output buffer, the landing slots of
the first twelve transfers, and the two semaphores of every transfer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Going round the ring -/

/-- The device `s` steps from `c` in the direction of transfer `i`: upwards for even `i`, downwards for odd. -/
def rot (i s : ℕ) (c : Dev nD) : Dev nD := ⟨(c.val + (if i % 2 = 0 then s else 3 * s)) % 4, Nat.mod_lt _ (by decide)⟩

/-- Steps add up. -/
theorem rot_rot (i s t : ℕ) (c : Dev nD) : rot i s (rot i t c) = rot i (s + t) c := by
  apply Fin.ext; unfold rot; split <;> dsimp only <;> omega

/-- Only the number of steps modulo four matters. -/
theorem rot_congr (i : ℕ) {s t : ℕ} (h : s % 4 = t % 4) (c : Dev nD) : rot i s c = rot i t c := by
  apply Fin.ext; unfold rot; split <;> dsimp only <;> omega

/-- No step goes nowhere. -/
theorem rot_zero (i : ℕ) (c : Dev nD) : rot i 0 c = c := by
  apply Fin.ext; unfold rot; have : c.val < 4 := c.isLt; simp only [Nat.mul_zero, ite_self, Nat.add_zero]; omega

/-- The direction depends on the parity only. -/
theorem rot_class (i s : ℕ) (c : Dev nD) : rot (i + 4) s c = rot i s c := by
  apply Fin.ext; unfold rot; dsimp only; rw [show (i + 4) % 2 = i % 2 by omega]

/-- Whom `c` sends to in transfer `i`. -/
abbrev fwd (i : ℕ) (c : Dev nD) : Dev nD := rot i 1 c
/-- Who sends to `c` in transfer `i`. -/
abbrev bwd (i : ℕ) (c : Dev nD) : Dev nD := rot i 3 c

theorem bwd_fwd (i : ℕ) (c : Dev nD) : bwd i (fwd i c) = c := by
  rw [bwd, fwd, rot_rot, rot_congr i (show (3 + 1) % 4 = 0 % 4 from rfl), rot_zero]
theorem fwd_bwd (i : ℕ) (c : Dev nD) : fwd i (bwd i c) = c := by
  rw [bwd, fwd, rot_rot, rot_congr i (show (1 + 3) % 4 = 0 % 4 from rfl), rot_zero]

/-- One step in the direction of transfer `i`, as a permutation of the devices. -/
def step (i : ℕ) : Dev nD ≃ Dev nD := ⟨fwd i, bwd i, bwd_fwd i, fwd_bwd i⟩

/-! ## The row slots of the output, and the landing slots -/

/-- The kernel's operands: this device's block of `x` and of `w`, the whole output, the landing buffer. -/
abbrev xM : Memref sig .tc .vmem S2048x512 .f32 := Memref.whole cc0_stg0_0
abbrev wM : Memref sig .tc .vmem S512x2048 .f32 := Memref.whole cc0_stg1_0
abbrev oM : Memref sig .tc .vmem S2048x2048 .f32 := Memref.whole cc0_stg2_0
abbrev lM : Memref sig .tc .vmem S2x6x128x2048 .f32 := Memref.whole cc0_scratch0

/-- Where the 128 rows of class `i` begin in the 512 rows of chunk `r`. -/
def offs (i : ℕ) (r : Dev nD) : Fin 2 → ℕ := ![512 * r.val + 256 * (i % 2) + 128 * (i / 2 % 2), 0]

theorem offs_class (i : ℕ) (r : Dev nD) : offs (i + 4) r = offs i r := by
  unfold offs; rw [show (i + 4) % 2 = i % 2 by omega, show (i + 4) / 2 % 2 = i / 2 % 2 by omega]

theorem offs_row_le (i : ℕ) (r : Dev nD) : 512 * r.val + 256 * (i % 2) + 128 * (i / 2 % 2) + 128 ≤ 2048 := by
  have := r.isLt; have : r.val < 4 := r.isLt; omega

theorem offs_out (i : ℕ) (r : Dev nD) : ∀ a, offs i r a + S128x2048.size a ≤ S2048x2048.size a := by
  have := offs_row_le i r
  intro a; fin_cases a
  · exact this
  · show 0 + 2048 ≤ 2048; omega

theorem offs_in (i : ℕ) (r : Dev nD) : ∀ a, offs i r a + S128x512.size a ≤ S2048x512.size a := by
  have := offs_row_le i r
  intro a; fin_cases a
  · exact this
  · show 0 + 512 ≤ 512; omega

/-- The rows of class `i` in chunk `r`, of the output and of `x`. -/
abbrev oR (i : ℕ) (r : Dev nD) : Rect S2048x2048 := Rect.unit (s := S2048x2048) (offs i r) S128x2048.size (offs_out i r)
abbrev xR (i : ℕ) (r : Dev nD) : Rect S2048x512 := Rect.unit (s := S2048x512) (offs i r) S128x512.size (offs_in i r)

/-- The output's slot of class `i` in chunk `r`. -/
abbrev oS (i : ℕ) (r : Dev nD) : Memref sig .tc .vmem S128x2048 .f32 := oM.slice (oR i r) (fun _ => rfl)

theorem oS_class (i : ℕ) (r : Dev nD) : oS (i + 4) r = oS i r :=
  Memref.slice_unit_congr oM (offs_class i r) _ _ _ _

/-- Where the landing slot of transfer `i` (`i < 12`) lies: by direction, then by number. -/
def loffs (i : ℕ) : Fin 4 → ℕ := ![i % 2, i / 2 % 6, 0, 0]

theorem loffs_in (i : ℕ) : ∀ a, loffs i a + S1x1x128x2048.size a ≤ S2x6x128x2048.size a := by
  intro a; fin_cases a
  · show i % 2 + 1 ≤ 2; omega
  · show i / 2 % 6 + 1 ≤ 6; omega
  · show 0 + 128 ≤ 128; omega
  · show 0 + 2048 ≤ 2048; omega

abbrev lR (i : ℕ) : Rect S2x6x128x2048 := Rect.unit (s := S2x6x128x2048) (loffs i) S1x1x128x2048.size (loffs_in i)
/-- The landing slot of transfer `i`, with its two leading axes of size one. -/
abbrev lS4 (i : ℕ) : Memref sig .tc .vmem S1x1x128x2048 .f32 := lM.slice (lR i) (fun _ => rfl)
/-- The landing slot of transfer `i`. -/
abbrev lS (i : ℕ) : Memref sig .tc .vmem S128x2048 .f32 := (lS4 i).squeeze S128x2048 squeezes_S1x1x128x2048_S128x2048

/-! ## The semaphores and their cells -/

/-- The barrier semaphore. -/
abbrev barS : Sem sig := (SemArray.scalar (sig.barrier 0 rfl) : Sems sig S_).sem

/-- The semaphore raised on the sender when transfer `i` has read its source, -/
def sendS (i : ℕ) : DmaSem sig := ⟨3 + (12 * (i % 2) + i / 2 % 12), by show _ < 51; omega⟩
/-- and the one raised on the receiver when transfer `i` has landed. -/
def recvS (i : ℕ) : DmaSem sig := ⟨27 + (12 * (i % 2) + i / 2 % 12), by show _ < 51; omega⟩

/-- The transfer with the `t`-th semaphore of either array. -/
def numOf (t : ℕ) : ℕ := 2 * (t % 12) + t / 12

theorem numOf_pos (i : ℕ) (h : i < 24) : numOf (12 * (i % 2) + i / 2 % 12) = i := by
  unfold numOf; rcases Nat.mod_two_eq_zero_or_one i with h' | h' <;> rw [h'] <;> omega

abbrev barCell (c : Dev nD) : GSem nD τ sig := ((c : Thread nD τ), .reg barS)
abbrev sendCell (i : ℕ) (c : Dev nD) : GSem nD τ sig := ((c : Thread nD τ), .dma (sendS i))
abbrev recvCell (i : ℕ) (c : Dev nD) : GSem nD τ sig := ((c : Thread nD τ), .dma (recvS i))

/-- What one transfer of a row slot raises its semaphores by. -/
abbrev N : ℕ := (oS 0 0).view.dmaCredit
theorem N_pos : 0 < N := View.dmaCredit_pos _ (by decide)

/-- Transfers of two different numbers have different receive cells, whatever the devices. -/
theorem recvS_inj {i j : ℕ} (hi : i < 24) (hj : j < 24) (h : recvS i = recvS j) : i = j := by
  have h' := congrArg Fin.val h
  simp only [recvS] at h'; omega

end Cert.Exchange
-- ==== Proof.Contents.lean ====
/-
# What the row slots hold

`x` and `w` are split between the devices: device `c` has the columns `512 c …` of `x` and the same rows of `w`.
Its partial product of a row slot is its rows of `x` times its `w`. A sum travels round the ring: a slot's value
at stage `k + 1 ≤ 3` is the device's own partial product plus what its neighbour had at stage `k`; from stage 3 on
the value is complete and is only passed along.
-/
module

public import proofs.«01_k».proof.Proof.Slots
public import Idealize.ShloMosaic.Lib.Pipeline.Value

@[expose] public section

noncomputable section

namespace Cert.Exchange

open Cert.KernelIdeal Cert.KernelIdeal.Gen
open Idealize.ShloMosaic Idealize.ShloMosaic.TcCoe

variable {F : FTy → Type} [FloatOps F]
variable (X : Dev nD → FVec F S2048x512 .f32) (W : Dev nD → FVec F S512x2048 .f32)

/-- Device `c`'s rows of `x` in the slot of class `i` of chunk `r`. -/
def xrows (i : ℕ) (r c : Dev nD) : FVec F S128x512 .f32 := fun j => X c ((xR i r).emb j)

theorem xrows_class (i : ℕ) (r c : Dev nD) : xrows X (i + 4) r c = xrows X i r c := by
  have h : ∀ (o o' : Fin 2 → ℕ) (p : ∀ a, o a + S128x512.size a ≤ S2048x512.size a)
      (p' : ∀ a, o' a + S128x512.size a ≤ S2048x512.size a), o = o' →
      (fun j => X c ((Rect.unit (s := S2048x512) o S128x512.size p).emb j) : FVec F S128x512 .f32)
        = fun j => X c ((Rect.unit (s := S2048x512) o' S128x512.size p').emb j) := by
    intro o o' p p' e; subst e; rfl
  exact h _ _ _ _ (offs_class i r)

/-- Device `c`'s partial product of the slot of class `i` of chunk `r`. -/
def prod (i : ℕ) (r c : Dev nD) : FVec F S128x2048 .f32 := k0_pay1 (xrows X i r c) (W c)

theorem prod_class (i : ℕ) (r c : Dev nD) : prod X W (i + 4) r c = prod X W i r c := by
  unfold prod; rw [xrows_class]

/-- What device `c` has in class `i` when stage `k` begins: in the slot of chunk `rot i (3 * k) c`. -/
def vals (i : ℕ) : ℕ → Dev nD → FVec F S128x2048 .f32
  | 0, c => prod X W i (rot i 0 c) c
  | k + 1, c => if k < 3 then addf (prod X W i (rot i (3 * (k + 1)) c) c) (vals i k (bwd i c)) else vals i k (bwd i c)

theorem vals_class (i k : ℕ) (c : Dev nD) : vals X W (i + 4) k c = vals X W i k c := by
  induction k generalizing c with
  | zero => unfold vals; rw [prod_class, rot_class]
  | succ k ih => unfold vals; rw [prod_class, bwd, bwd, rot_class, rot_class, ih]

/-- What device `c` sends in transfer `i`. -/
def val (i : ℕ) (c : Dev nD) : FVec F S128x2048 .f32 := vals X W i (i / 4) c

/-- In the first stage that is its partial product, -/
theorem val_first (i : ℕ) (h : i < 4) (c : Dev nD) : val X W i c = prod X W i (rot i (3 * (i / 4)) c) c := by
  unfold val; rw [Nat.div_eq_of_lt h]; rfl

/-- in the next three the partial product and what came one stage earlier, -/
theorem val_add (i : ℕ) (h : i < 12) (c : Dev nD) :
    val X W (i + 4) c = addf (prod X W (i + 4) (rot (i + 4) (3 * ((i + 4) / 4)) c) c) (val X W i (bwd i c)) := by
  unfold val
  rw [Nat.add_div_right i (by decide), vals_class, prod_class, rot_class]
  exact if_pos (by omega)

/-- and in the last ones only what came. -/
theorem val_pass (i : ℕ) (h : 12 ≤ i) (c : Dev nD) : val X W (i + 4) c = val X W i (bwd i c) := by
  unfold val
  rw [Nat.add_div_right i (by decide), vals_class]
  exact if_neg (by omega)

/-- A load of the rows of `x`. -/
theorem read_x (i : ℕ) (r c : Dev nD) :
    ((xM : Memref sig .tc .vmem S2048x512 .f32).access (xR i r)).read (Elt F) (X c) = xrows X i r c := rfl

/-- The sum the kernel forms of a loaded slot and a loaded landing slot. -/
theorem sum_eq (a : FVec F S128x2048 .f32) (i : ℕ) (f : (cc0_scratch0 : Ref sig .tc).ty.Contents (Elt F)) :
    k0_pay20 a (((lM : Memref sig .tc .vmem S2x6x128x2048 .f32).access (lR i)).read (Elt F) f) = addf a ((lS i).view.read (Elt F) f) := by
  unfold k0_pay20
  dsimp only
  rw [shapeCast_self]
  rfl

end Cert.Exchange
-- ==== Proof.Plan.lean ====
/-
# Who waits for what

Every semaphore is waited on by its own device, once, in one round.

* The barrier semaphore of device `c` is raised by one by each neighbour. With it the neighbour hands over its
  landing slots for the transfers that `c` sends to it.
* The send semaphore of transfer `i` on `c` is raised when the source has been read. From stage 3 on the source
  comes back with it; before that the source travels on with the landing, as a later transfer overwrites it.
* The receive semaphore of transfer `i` on `c` is raised when what the neighbour sent has landed on `c`. With it
  comes the slot landed in, and the right to write the output slots that devices behind have let go.
-/
module

public import proofs.«01_k».proof.Proof.Contents

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging pipeline's rounds and the transfers'. -/
abbrev UT : Type := URounds (GSem nD τ sig) Bool
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

variable (X : Dev nD → FVec F S2048x512 .f32) (W : Dev nD → FVec F S512x2048 .f32)

/-! ## Owning slots -/

/-- Device `d` owns what `m` names, and it holds `Y`. -/
abbrev has {s : Shape} (d : Dev nD) (m : Memref sig .tc .vmem s .f32) (Y : s.Idx → Elt F .f32) : sProp 𝕄 :=
  ownsTc d m fullShare Y

/-- Device `d` owns what `m` names, whatever it holds. -/
def loose {s : Shape} (d : Dev nD) (m : Memref sig .tc .vmem s .f32) : sProp 𝕄 := iprop(∃ Y, has (F := F) d m Y)

theorem loose_intro {s : Shape} (d : Dev nD) (m : Memref sig .tc .vmem s .f32) (Y : s.Idx → Elt F .f32) :
    (has d m Y : sProp 𝕄) ⊢ loose d m := by
  unfold loose; iintro H; iexists Y; iexact H

instance loose_storable {s : Shape} (d : Dev nD) (m : Memref sig .tc .vmem s .f32) :
    BI.Storable (upEmb : UEmb _ 𝕄) (loose (F := F) d m) := by unfold loose; infer_instance

/-! ## The output slots that travel -/

/-- The output slot let go `l` steps behind `c`, if one is under way in class `i` when `c` has done `k` stages:
    a device lets a slot go in stages 0, 1, 2 and it is written three stages later. -/
def hold (i k l : ℕ) (c : Dev nD) : sProp 𝕄 :=
  if l ≤ k ∧ k ≤ l + 2 then loose (F := F) (rot i (3 * l) c) (oS i (rot i (3 * k) c)) else iprop(emp)

/-- All of those that `c` has charge of. -/
def car (i k : ℕ) (c : Dev nD) : sProp 𝕄 := iprop(hold (F := F) i k 1 c ∗ hold i k 2 c ∗ hold i k 3 c)

instance hold_storable (i k l : ℕ) (c : Dev nD) : BI.Storable (upEmb : UEmb _ 𝕄) (hold (F := F) i k l c) := by
  unfold hold; split <;> infer_instance
instance car_storable (i k : ℕ) (c : Dev nD) : BI.Storable (upEmb : UEmb _ 𝕄) (car (F := F) i k c) := by
  unfold car; infer_instance

theorem hold_class (i k l : ℕ) (c : Dev nD) : (hold (F := F) (i + 4) k l c : sProp 𝕄) = hold i k l c := by
  unfold hold; rw [oS_class, rot_class, rot_class]
theorem car_class (i k : ℕ) (c : Dev nD) : (car (F := F) (i + 4) k c : sProp 𝕄) = car i k c := by
  unfold car; rw [hold_class, hold_class, hold_class]

/-- One stage later, one device on, the same slot is one step further behind. -/
theorem hold_step (i k l : ℕ) (c : Dev nD) : (hold (F := F) i (k + 1) (l + 1) (fwd i c) : sProp 𝕄) = hold i k l c := by
  unfold hold
  rw [fwd, rot_rot, rot_rot, rot_congr i (show (3 * (l + 1) + 1) % 4 = (3 * l) % 4 by omega),
    rot_congr i (show (3 * (k + 1) + 1) % 4 = (3 * k) % 4 by omega)]
  exact if_congr (by omega) rfl rfl

theorem hold_none {i k l : ℕ} {c : Dev nD} (h : ¬ (l ≤ k ∧ k ≤ l + 2)) : (hold (F := F) i k l c : sProp 𝕄) = iprop(emp) := by
  unfold hold; rw [if_neg h]

/-- Before the first stage nothing is under way. -/
theorem car_start (i : ℕ) (c : Dev nD) : (emp : sProp 𝕄) ⊢ car (F := F) i 0 c := by
  unfold car; rw [hold_none (by omega), hold_none (by omega), hold_none (by omega)]
  iintro -; isplitr; · iempintro
  isplitr <;> iempintro

/-- Nor is anything after the last one. -/
theorem car_end (i : ℕ) (c : Dev nD) : (car (F := F) i 6 c : sProp 𝕄) ⊢ emp := by
  unfold car; rw [hold_none (by omega), hold_none (by omega), hold_none (by omega)]
  iintro -; iempintro

/-- In stages 0, 1, 2 the sender's slot joins those under way. -/
theorem car_add (i k : ℕ) (hk : k < 3) (c : Dev nD) :
    iprop(car (F := F) i k c ∗ loose c (oS i (rot i (3 * k) c))) ⊢ (car i (k + 1) (fwd i c) : sProp 𝕄) := by
  unfold car
  rw [hold_step i k 1 c, hold_step i k 2 c,
    show (hold (F := F) i (k + 1) 1 (fwd i c) : sProp 𝕄) = loose c (oS i (rot i (3 * k) c)) by
      unfold hold
      rw [if_pos (by omega), fwd, rot_rot, rot_rot, rot_congr i (show (3 * 1 + 1) % 4 = 0 % 4 by omega), rot_zero,
        rot_congr i (show (3 * (k + 1) + 1) % 4 = (3 * k) % 4 by omega)],
    hold_none (l := 3) (k := k) (by omega)]
  iintro ⟨⟨H1, H2, -⟩, H⟩
  isplitl [H]; · iexact H
  isplitl [H1] <;> iassumption

/-- In stages 3, 4, 5 the receiver's slot is among those under way, and leaves them. -/
theorem car_take (i k : ℕ) (hk : 3 ≤ k) (hk' : k ≤ 5) (c : Dev nD) :
    (car (F := F) i k c : sProp 𝕄) ⊢ iprop(loose (fwd i c) (oS i (rot i (3 * k) c)) ∗ car i (k + 1) (fwd i c)) := by
  unfold car
  rw [hold_step i k 1 c, hold_step i k 2 c, hold_none (l := 1) (k := k + 1) (by omega),
    show (hold (F := F) i k 3 c : sProp 𝕄) = loose (fwd i c) (oS i (rot i (3 * k) c)) by
      unfold hold
      rw [if_pos (by omega), fwd, rot_congr i (show (3 * 3) % 4 = 1 % 4 by omega)]]
  iintro ⟨H1, H2, H⟩
  isplitl [H]; · iexact H
  isplitr [H1 H2]; · iempintro
  isplitl [H1] <;> iassumption

/-! ## The payloads -/

/-- What the neighbour hands `c` with its unit of the barrier: in direction `b` its landing slots. -/
def barPay (b : Bool) (c : Dev nD) : sProp 𝕄 :=
  bigSep ((Finset.range 12).filter fun i => i % 2 = b.toNat) fun i => loose (F := F) (fwd i c) (lS i)

/-- What `c` gets back when transfer `i` has read its source. -/
def back (i : ℕ) (c : Dev nD) : sProp 𝕄 :=
  if i < 12 then iprop(emp) else has c (oS i (rot i (3 * (i / 4)) c)) (val X W i c)

/-- The slot transfer `i` lands in. -/
def target (i : ℕ) (c : Dev nD) : Memref sig .tc .vmem S128x2048 .f32 :=
  if i < 12 then lS i else oS i (rot i (3 * (i / 4 + 1)) c)

/-- What `c` gets when transfer `i` has landed on it. -/
def landed (i : ℕ) (c : Dev nD) : sProp 𝕄 :=
  iprop(has c (target i c) (val X W i (bwd i c)) ∗ car i (i / 4 + 1) c)

instance barPay_storable (b : Bool) (c : Dev nD) : BI.Storable (upEmb : UEmb _ 𝕄) (barPay (F := F) b c) := by
  unfold barPay; infer_instance
instance back_storable (i : ℕ) (c : Dev nD) : BI.Storable (upEmb : UEmb _ 𝕄) (back X W i c) := by
  unfold back; split <;> infer_instance
instance landed_storable (i : ℕ) (c : Dev nD) : BI.Storable (upEmb : UEmb _ 𝕄) (landed X W i c) := by
  unfold landed; infer_instance

/-! ## The schedule -/

/-- The duties of a semaphore: two of the barrier's, one of a transfer's. -/
def dutiesOf : SemLoc sig → Finset Bool
  | .reg _ => Finset.univ
  | .dma q => if 3 ≤ q.val then {false} else ∅

/-- What a duty raises its semaphore by. -/
def amountOf : SemLoc sig → ℕ
  | .reg _ => 1
  | .dma _ => N

/-- What a duty hands over. -/
def payOf (c : Dev nD) (b : Bool) : SemLoc sig → sProp 𝕄
  | .reg _ => barPay b c
  | .dma q => if q.val < 27 then back X W (numOf (q.val - 3)) c else landed X W (numOf (q.val - 27)) c

/-- One round: each semaphore's duties, amounts and payloads. -/
def plan : Rounds.Schedule (GSem nD τ sig) Bool 𝕄 where
  duties g r := if r = 0 ∧ g.1.2 = .tc then dutiesOf g.2 else ∅
  unitless _ := False
  amount g _ _ := amountOf g.2
  payload g _ b := payOf X W g.1.1 b g.2
  amount_pos g _ _ _ := by
    unfold amountOf
    split
    · exact Nat.one_pos
    · exact N_pos

instance plan_storable (g : GSem nD τ sig) (r : ℕ) (b : Bool) : BI.Storable (upEmb : UEmb _ 𝕄) ((plan X W).payload g r b) := by
  show BI.Storable upEmb (payOf X W g.1.1 b g.2)
  unfold payOf
  split
  · infer_instance
  · split <;> infer_instance

section Facts
variable (c : Dev nD)

theorem duties_eq (sm : SemLoc sig) : (plan X W).duties ((c : Thread nD τ), sm) 0 = dutiesOf sm := by
  show (if 0 = 0 ∧ (c : Thread nD τ).2 = .tc then dutiesOf sm else ∅) = dutiesOf sm
  exact if_pos ⟨rfl, rfl⟩
theorem duties_bar : (plan X W).duties (barCell c) 0 = Finset.univ := duties_eq X W c _
theorem duties_send (i : ℕ) : (plan X W).duties (sendCell i c) 0 = {false} := by
  rw [duties_eq]; unfold dutiesOf; dsimp only [sendS]; exact if_pos (by omega)
theorem duties_recv (i : ℕ) : (plan X W).duties (recvCell i c) 0 = {false} := by
  rw [duties_eq]; unfold dutiesOf; dsimp only [recvS]; exact if_pos (by omega)
theorem duties_later (g : GSem nD τ sig) : ∀ r, 1 ≤ r → (plan X W).duties g r = ∅ :=
  fun r hr => if_neg fun h => by omega

theorem payload_bar (b : Bool) : (plan X W).payload (barCell c) 0 b = barPay b c := rfl
theorem payload_send (i : ℕ) (hi : i < 24) (b : Bool) : (plan X W).payload (sendCell i c) 0 b = back X W i c := by
  show payOf X W c b (.dma (sendS i)) = _
  unfold payOf; dsimp only [sendS]
  rw [if_pos (by omega), Nat.add_sub_cancel_left, numOf_pos i hi]
theorem payload_recv (i : ℕ) (hi : i < 24) (b : Bool) : (plan X W).payload (recvCell i c) 0 b = landed X W i c := by
  show payOf X W c b (.dma (recvS i)) = _
  unfold payOf; dsimp only [recvS]
  rw [if_neg (by omega), Nat.add_sub_cancel_left, numOf_pos i hi]

theorem expect_bar : (plan X W).expect (barCell c) 0 = 2 := by
  unfold Schedule.expect Schedule.amountOf; rw [duties_bar]; rfl
theorem expect_send (i : ℕ) : (plan X W).expect (sendCell i c) 0 = N := by
  unfold Schedule.expect Schedule.amountOf; rw [duties_send, Finset.sum_singleton]; rfl
theorem expect_recv (i : ℕ) : (plan X W).expect (recvCell i c) 0 = N := by
  unfold Schedule.expect Schedule.amountOf; rw [duties_recv, Finset.sum_singleton]; rfl

end Facts

/-! ## Levels, and what is owed -/

/-- Every semaphore of a kernel thread may be waited on. -/
def L (g : GSem nD τ sig) : Finset Unit := if g.1.2 = .tc then {()} else ∅

/-- The order of waiting: the barrier, then the landings in the order of their numbers; sends last, when nothing is
    owed any more. -/
def lvOf : SemLoc sig → ℕ
  | .reg _ => 1
  | .dma q => if q.val < 27 then 0 else numOf (q.val - 27) + 2

def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (i : ℕ) (hi : i < 24) (c : Dev nD) : lv (recvCell i c) () = i + 2 := by
  show lvOf (.dma (recvS i)) = _
  unfold lvOf; dsimp only [recvS]
  rw [if_neg (by omega), Nat.add_sub_cancel_left, numOf_pos i hi]

/-- Having started `n` transfers, `c` owes the landings of the others. -/
def owed (n : ℕ) (c : Dev nD) : CellTallies nD τ sig Unit := ∑ i ∈ Finset.Ico n 24, tallyAt (recvCell i (fwd i c)) () N

/-- The first number of an interval, and the others. -/
theorem Ico_first {a b : ℕ} (h : a < b) : Finset.Ico a b = insert a (Finset.Ico (a + 1) b) := by
  ext j; rw [Finset.mem_insert, Finset.mem_Ico, Finset.mem_Ico]; omega

theorem not_mem_rest (a b : ℕ) : a ∉ Finset.Ico (a + 1) b := by rw [Finset.mem_Ico]; omega

theorem owed_step (n : ℕ) (h : n < 24) (c : Dev nD) :
    owed n c = owed (n + 1) c + tallyAt (recvCell n (fwd n c)) () N := by
  unfold owed; rw [Ico_first h, Finset.sum_insert (not_mem_rest n 24), add_comm]

theorem owed_end (c : Dev nD) : owed 24 c = 0 := by unfold owed; rw [Finset.Ico_self, Finset.sum_empty]

/-- Before its barrier signals it owes those as well. -/
def owedBar (c : Dev nD) : CellTallies nD τ sig Unit := owed 0 c + tallyAt (barCell (bwd 1 c)) () 1
def owedAll (c : Dev nD) : CellTallies nD τ sig Unit := owedBar c + tallyAt (barCell (bwd 0 c)) () 1

/-- What is owed is owed to receive semaphores of transfers not yet started. -/
theorem owed_pos {n : ℕ} {c : Dev nD} {g : GSem nD τ sig} {u : Unit} (h : 0 < owed n c g u) :
    ∃ i, n ≤ i ∧ i < 24 ∧ g = recvCell i (fwd i c) := by
  unfold owed at h
  rw [Finset.sum_apply, Finsupp.finsetSum_apply] at h
  obtain ⟨i, hi, hne⟩ := Finset.exists_ne_zero_of_sum_ne_zero (Nat.pos_iff_ne_zero.mp h)
  rw [tallyAt_apply] at hne
  rw [Finset.mem_Ico] at hi
  refine ⟨i, hi.1, hi.2, ?_⟩
  by_contra hg
  exact hne (if_neg fun h' => hg h'.1)

theorem tally_pos {O : CellTallies nD τ sig Unit} {g g' : GSem nD τ sig} {u : Unit} {n : ℕ}
    (h : 0 < (O + tallyAt g' () n) g u) : 0 < O g u ∨ g = g' := by
  rw [Pi.add_apply, Finsupp.add_apply, tallyAt_apply] at h
  by_cases hg : g = g'
  · exact .inr hg
  · rw [if_neg fun h' => hg h'.1] at h; exact .inl h

theorem owedAll_pos {c : Dev nD} {g : GSem nD τ sig} {u : Unit} (h : 0 < owedAll c g u) :
    (∃ i, i < 24 ∧ g = recvCell i (fwd i c)) ∨ g = barCell (bwd 1 c) ∨ g = barCell (bwd 0 c) := by
  rcases tally_pos h with h | h
  · rcases tally_pos h with h | h
    · obtain ⟨i, -, hi, hg⟩ := owed_pos h
      exact .inl ⟨i, hi, hg⟩
    · exact .inr (.inl h)
  · exact .inr (.inr h)

/-- A wait is allowed if everything still owed is a landing of a higher number. -/
theorem mayWait_of (c : Dev nD) (sm : SemLoc sig) (n : ℕ) (h : lvOf sm < n + 2) :
    (levAts L lv : sProp 𝕄) ⊢ MayWait (c : Thread nD τ) sm () (owed n c) :=
  MayOwe.of_cut (L := L) (lev := lv) (lvOf sm) (fun p hp => by rw [Finset.mem_singleton.mp hp, L_tc]; exact Finset.mem_singleton_self _)
    (fun g u hg => by obtain ⟨i, _, _, rfl⟩ := owed_pos hg; exact Finset.mem_singleton_self _)
    (fun p hp => by rw [Finset.mem_singleton.mp hp]; exact le_rfl)
    (fun g u hg => by obtain ⟨i, h1, h2, rfl⟩ := owed_pos hg; rw [lv_recv i h2]; omega)

/-- A semaphore of level zero may be waited on from the start. -/
theorem mayWait_all (c : Dev nD) (sm : SemLoc sig) (h : lvOf sm = 0) :
    (levAts L lv : sProp 𝕄) ⊢ MayWait (c : Thread nD τ) sm () (owedAll c) :=
  MayOwe.of_cut (L := L) (lev := lv) 0 (fun p hp => by rw [Finset.mem_singleton.mp hp, L_tc]; exact Finset.mem_singleton_self _)
    (fun g u hg => by rcases owedAll_pos hg with ⟨i, _, rfl⟩ | rfl | rfl <;> exact Finset.mem_singleton_self _)
    (fun p hp => by rw [Finset.mem_singleton.mp hp]; exact h.le)
    (fun g u hg => by
      rcases owedAll_pos hg with ⟨i, hi, rfl⟩ | rfl | rfl
      · rw [lv_recv i hi]; omega
      · exact Nat.one_pos
      · exact Nat.one_pos)

end Cert.Exchange
-- ==== Proof.State.lean ====
/-
# What a device has at each point of the kernel

Five counters say how far a device has come: `gn` partial products stored, `sn` transfers started, `rn` landings
waited for, `an` landings taken up, `wn` sends waited for. `St` is what the device owns at such a point, one bundle
for each kind of thing, so that a step of the kernel moves one element from one bundle to another.
-/
module

public import proofs.«01_k».proof.Proof.Plan
public import Idealize.SL.BI.BigOpNat

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2048x512 .f32) (W : Dev nD → FVec F S512x2048 .f32)

/-! ## What every device knows -/

/-- The names of the cells of one device: the barrier's, a send's (`false`), a landing's (`true`). -/
abbrev Sm : Type := Option (Bool × Fin 24)

/-- The cell with a name. -/
def cellAt : Dev nD × Sm → GSem nD τ sig
  | (c, none) => barCell c
  | (c, some (false, i)) => sendCell i.val c
  | (c, some (true, i)) => recvCell i.val c

/-- The invariants of all cells, that all have reached their first round, and the levels. -/
def know (K : Dev nD × Sm → ℕ) : sProp 𝕄 :=
  iprop((bigSep Finset.univ fun p => cellInv ER (plan X W) (K p) (cellAt p))
    ∗ (bigSep Finset.univ fun p => reached ER (cellAt p) 0) ∗ levAts L lv)

instance know_persistent (K : Dev nD × Sm → ℕ) : BI.Persistent (know X W K) := by unfold know; infer_instance

section Known
variable (K : Dev nD × Sm → ℕ) (c : Dev nD)

theorem know_inv (p : Dev nD × Sm) : (know X W K : sProp 𝕄) ⊢ cellInv ER (plan X W) (K p) (cellAt p) := by
  unfold know; iintro ⟨H, -, -⟩
  iapply (show (bigSep Finset.univ fun p => cellInv ER (plan X W) (K p) (cellAt p) : sProp 𝕄) ⊢ cellInv ER (plan X W) (K p) (cellAt p)
    from bigSep_elim (Finset.mem_univ p))
  iexact H
theorem know_reached (p : Dev nD × Sm) : (know X W K : sProp 𝕄) ⊢ reached ER (cellAt p) 0 := by
  unfold know; iintro ⟨-, H, -⟩
  iapply (show (bigSep Finset.univ fun p => reached ER (cellAt p) 0 : sProp 𝕄) ⊢ reached ER (cellAt p) 0
    from bigSep_elim (Finset.mem_univ p))
  iexact H
theorem know_lev : (know X W K : sProp 𝕄) ⊢ levAts L lv := by
  unfold know; iintro ⟨-, -, H⟩; iexact H

theorem know_send (i : ℕ) (h : i < 24) :
    (know X W K : sProp 𝕄) ⊢ cellInv ER (plan X W) (K (c, some (false, ⟨i, h⟩))) (sendCell i c) := know_inv X W K (c, some (false, ⟨i, h⟩))
theorem know_recv (i : ℕ) (h : i < 24) :
    (know X W K : sProp 𝕄) ⊢ cellInv ER (plan X W) (K (c, some (true, ⟨i, h⟩))) (recvCell i c) := know_inv X W K (c, some (true, ⟨i, h⟩))
theorem know_send' (i : ℕ) (h : i < 24) : (know X W K : sProp 𝕄) ⊢ reached ER (sendCell i c) 0 :=
  know_reached X W K (c, some (false, ⟨i, h⟩))
theorem know_recv' (i : ℕ) (h : i < 24) : (know X W K : sProp 𝕄) ⊢ reached ER (recvCell i c) 0 :=
  know_reached X W K (c, some (true, ⟨i, h⟩))

end Known

/-! ## The bundles -/

section Bundles
variable (c : Dev nD)

/-- The tokens of the transfers not yet started, -/
def toks (n : ℕ) : sProp 𝕄 :=
  bigSep (Finset.Ico n 24) fun i => iprop(dutyTok ER (sendCell i c) 0 false ∗ dutyTok ER (recvCell i (fwd i c)) 0 false)
/-- the landing slots ahead that they go to, -/
def room (n : ℕ) : sProp 𝕄 := bigSep (Finset.Ico n 12) fun i => loose (F := F) (fwd i c) (lS i)
/-- the right to wait for the landings still to come, -/
def comes (n : ℕ) : sProp 𝕄 :=
  bigSep (Finset.Ico n 24) fun i => iprop(atPos ER (recvCell i c) 0 ∅ 0 ∗ cred (tallyAt (recvCell i c) () N))
/-- the semaphores of those that have come, -/
def came (n : ℕ) : sProp 𝕄 := bigSep (Finset.range n) fun i => semVal (recvCell i c) 0
/-- the landing slots that have been read, -/
def used (n : ℕ) : sProp 𝕄 := bigSep (Finset.range n) fun i => if i < 12 then loose (F := F) c (lS i) else iprop(emp)
/-- the right to wait for the sends: the places, -/
def outs (n : ℕ) : sProp 𝕄 := bigSep (Finset.Ico n 24) fun i => atPos ER (sendCell i c) 0 ∅ 0
/-- the credits of those under way, -/
def under (m n : ℕ) : sProp 𝕄 := bigSep (Finset.Ico m n) fun i => cred (tallyAt (sendCell i c) () N)
/-- and the semaphores of those waited for, with what they brought back. -/
def went (n : ℕ) : sProp 𝕄 := bigSep (Finset.range n) fun i => iprop(semVal (sendCell i c) 0 ∗ back X W i c)

/-- The slot that `c` sends in transfer `i`. -/
abbrev srcS (i : ℕ) : Memref sig .tc .vmem S128x2048 .f32 := oS i (rot i (3 * (i / 4)) c)

/-- The slot of transfer `i` ready to be sent: it holds the value, and `c` has charge of the slots under way. -/
def ready (i : ℕ) : sProp 𝕄 := iprop(has c (srcS c i) (val X W i c) ∗ car i (i / 4) c)

/-- When the partial product of the slot of transfer `i < 16` is stored. -/
def pos (i : ℕ) : ℕ := 4 * (if i % 2 = 0 then (4 - i / 4) % 4 else i / 4) + 2 * (i % 2) + i / 2 % 2

theorem pos_inj : ∀ i < 16, ∀ j < 16, pos i = pos j → i = j := by decide

/-- The slot of transfer `i` before anything has come for it: with its partial product once that is stored. -/
def fresh (gn i : ℕ) : sProp 𝕄 :=
  if pos i < gn then has c (srcS c i) (prod X W i (rot i (3 * (i / 4)) c) c) else loose c (srcS c i)

/-- The slot of transfer `i`, before it is sent. -/
def slotAt (gn an i : ℕ) : sProp 𝕄 :=
  if 4 ≤ i ∧ i < 4 + an then ready X W c i else if i < 16 then fresh X W c gn i else iprop(emp)

def slots (gn sn an : ℕ) : sProp 𝕄 := bigSep (Finset.Ico sn 28) (slotAt X W c gn an)

/-- What is owed after `n` transfers, whatever has been waited for. -/
def debt (n : ℕ) : sProp 𝕄 := iprop(∃ Wt : Waits sig Unit, owes (c : Thread nD τ) (owed n c) Wt)

/-- Everything the device has. -/
def St (K : Dev nD × Sm → ℕ) (gn sn rn an wn : ℕ) : sProp 𝕄 :=
  iprop(know X W K ∗ debt c sn ∗ has c xM (X c) ∗ has c wM (W c) ∗ toks c sn ∗ room c sn ∗ comes c rn ∗ came c rn
    ∗ used c an ∗ outs c wn ∗ under c wn sn ∗ went X W c wn ∗ slots X W c gn sn an)

end Bundles

/-! ## Moving elements -/

section Moving
variable (c : Dev nD)

/-- One element of a bundle is taken out, and another put in its place. -/
theorem swap {S : Finset ℕ} {Φ Ψ : ℕ → sProp 𝕄} (j : ℕ) (hj : j ∈ S) (h : ∀ i ∈ S, i ≠ j → Φ i = Ψ i) :
    (bigSep S Φ : sProp 𝕄) ⊢ iprop(Φ j ∗ (Ψ j -∗ bigSep S Ψ)) := by
  have e (A : ℕ → sProp 𝕄) : bigSep S A = iprop(A j ∗ bigSep (S.erase j) A) := bigSep_erase hj
  rw [e Φ, e Ψ,
    bigSep_congr (s := S.erase j) (Φ := Φ) (Ψ := Ψ) fun i hi => h i (Finset.mem_of_mem_erase hi) (Finset.ne_of_mem_erase hi)]
  iintro ⟨H, HR⟩
  isplitl [H]; · iexact H
  iintro H; isplitl [H] <;> iassumption

theorem slotAt_ready (gn an j : ℕ) (h : 4 ≤ j) (h' : j < 4 + an) : (slotAt X W c gn an j : sProp 𝕄) = ready X W c j :=
  if_pos ⟨h, h'⟩
theorem slotAt_fresh (gn an j : ℕ) (h : j < 4 ∨ 4 + an ≤ j) (h' : j < 16) :
    (slotAt X W c gn an j : sProp 𝕄) = fresh X W c gn j := by
  unfold slotAt; rw [if_neg (by omega), if_pos h']
theorem slotAt_none (gn an j : ℕ) (h : 4 + an ≤ j) (h' : 16 ≤ j) : (slotAt X W c gn an j : sProp 𝕄) = iprop(emp) := by
  unfold slotAt; rw [if_neg (by omega), if_neg (by omega)]
theorem fresh_done (gn j : ℕ) (h : pos j < gn) :
    (fresh X W c gn j : sProp 𝕄) = has c (srcS c j) (prod X W j (rot j (3 * (j / 4)) c) c) := if_pos h

/-- A slot with nothing come for it holds something, and may be given back as it was. -/
theorem fresh_peek (gn j : ℕ) :
    (fresh X W c gn j : sProp 𝕄) ⊢ iprop(∃ Y, has c (srcS c j) Y ∗ (has c (srcS c j) Y -∗ fresh X W c gn j)) := by
  unfold fresh
  split
  · iintro H; iexists _; isplitl [H]; · iexact H
    iintro H; iexact H
  · unfold loose; iintro ⟨%Y, H⟩; iexists Y; isplitl [H]; · iexact H
    iintro H; iexists Y; iexact H

theorem fresh_loose (gn j : ℕ) : (fresh X W c gn j : sProp 𝕄) ⊢ loose c (srcS c j) := by
  unfold fresh
  split
  · exact loose_intro _ _ _
  · iintro H; iexact H

/-- Looking into a slot that nothing has come for. -/
theorem slots_peek {gn sn an : ℕ} (j : ℕ) (h1 : sn ≤ j) (h2 : j < 16) (h3 : j < 4 ∨ 4 + an ≤ j) :
    (slots X W c gn sn an : sProp 𝕄)
      ⊢ iprop(fresh X W c gn j ∗ (fresh X W c gn j -∗ slots X W c gn sn an)) := by
  have h := swap (F := F) (S := Finset.Ico sn 28) (Φ := slotAt X W c gn an) (Ψ := slotAt X W c gn an) j
    (by rw [Finset.mem_Ico]; omega) (fun _ _ _ => rfl)
  rw [slotAt_fresh X W c gn an j h3 h2] at h
  exact h

/-- Storing the next partial product. -/
theorem slots_gemm {gn sn an : ℕ} (j : ℕ) (h1 : sn ≤ j) (h2 : j < 16) (h3 : j < 4 ∨ 4 + an ≤ j) (hp : pos j = gn) :
    (slots X W c gn sn an : sProp 𝕄)
      ⊢ iprop(loose c (srcS c j) ∗ (has c (srcS c j) (prod X W j (rot j (3 * (j / 4)) c) c) -∗ slots X W c (gn + 1) sn an)) := by
  have h := swap (F := F) (S := Finset.Ico sn 28) (Φ := slotAt X W c gn an) (Ψ := slotAt X W c (gn + 1) an) j
    (by rw [Finset.mem_Ico]; omega) (fun i _ hi => by
      unfold slotAt
      by_cases ha : 4 ≤ i ∧ i < 4 + an
      · rw [if_pos ha, if_pos ha]
      · rw [if_neg ha, if_neg ha]
        by_cases hb : i < 16
        · rw [if_pos hb, if_pos hb]
          unfold fresh
          exact if_congr (by have : pos i ≠ gn := fun e => hi (pos_inj i hb j h2 (e.trans hp.symm)); omega) rfl rfl
        · rw [if_neg hb, if_neg hb])
  rw [slotAt_fresh X W c gn an j h3 h2, slotAt_fresh X W c (gn + 1) an j h3 h2, fresh_done X W c (gn + 1) j (by omega)] at h
  exact h.trans (sep_mono_left (fresh_loose X W c gn j))

/-- Taking up what transfer `n` brought: the slot of transfer `n + 4` becomes ready. -/
theorem slots_take {gn sn n : ℕ} (h1 : sn ≤ n + 4) (h2 : n < 24) :
    (slots X W c gn sn n : sProp 𝕄)
      ⊢ iprop(slotAt X W c gn n (n + 4) ∗ (ready X W c (n + 4) -∗ slots X W c gn sn (n + 1))) := by
  have h := swap (F := F) (S := Finset.Ico sn 28) (Φ := slotAt X W c gn n) (Ψ := slotAt X W c gn (n + 1)) (n + 4)
    (by rw [Finset.mem_Ico]; omega) (fun i _ hi => by unfold slotAt; exact if_congr (by omega) rfl rfl)
  rw [slotAt_ready X W c gn (n + 1) (n + 4) (by omega) (by omega)] at h
  exact h

/-- The slot of the next transfer is ready. -/
theorem slots_send {gn n an : ℕ} (hn : n < 24) (h : n < 4 + an) (hg : n < 4 → pos n < gn) :
    (slots X W c gn n an : sProp 𝕄) ⊢ iprop(ready X W c n ∗ slots X W c gn (n + 1) an) := by
  unfold slots
  rw [bigSep_Ico_succ_bot (by omega : n < 28)]
  refine sep_mono_left ?_
  by_cases h4 : n < 4
  · rw [slotAt_fresh X W c gn an n (.inl h4) (by omega), fresh_done X W c gn n (hg h4)]
    unfold ready
    rw [val_first X W n h4, Nat.div_eq_of_lt h4]
    iintro H; isplitl [H]; · iexact H
    iapply (car_start n c); iempintro
  · rw [slotAt_ready X W c gn an n (by omega) h]

/-- What landed in transfer `n ≥ 12` is the slot of transfer `n + 4`, ready. -/
theorem landed_ready (n : ℕ) (h : 12 ≤ n) : (landed X W n c : sProp 𝕄) = ready X W c (n + 4) := by
  unfold landed ready target srcS
  rw [if_neg (by omega), val_pass X W n h c, car_class, oS_class, rot_class, Nat.add_div_right n (by decide)]

end Moving

end Cert.Exchange
-- ==== Proof.Steps.lean ====
/-
# The steps of the kernel

One theorem for each kind of operation the kernel does, for every number it does it for: each takes the state before
the operation to the state after it.
-/
module

public import proofs.«01_k».proof.Proof.State

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2048x512 .f32) (W : Dev nD → FVec F S512x2048 .f32)

/-- The kernel has no loops that need a variant. -/
abbrev 𝒱₀ : Variants := Variants.none

/-- A piece of the kernel, run by device `c` to `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Steps
variable (K : Dev nD × Sm → ℕ) (c : Dev nD) {gn sn rn an wn : ℕ}

/-! ## Loads and stores of what one owns -/

/-- Loading the part of an owned memref that a rectangle names, when all of it is owned as a slice. -/
theorem load_slice {α : Type} {Q : α → sProp 𝕄} {s : Shape} {m : Memref sig .tc .vmem s .f32} {r : Rect s} {hr : ∀ a, r.stride a = 1} (Y : r.shape.Idx → Elt F .f32)
    {hl : m.view.LoadsAt r.toLoadRect} {k : (r.shape.Idx → Elt F .f32) → Prog (TpuEff nD τ sig (Elt F) Λ₀ .tc) α} :
    (has c (m.slice r hr) Y : sProp 𝕄)
      ⊢ iprop((has c (m.slice r hr) Y -∗ run c (k Y) Q) -∗ run c (.op (.load m r.toLoadRect hl) k) Q) := by
  unfold has ownsTc owns
  iintro ⟨%f, %hf, H⟩ Hk
  iapply (wp_load_rect 𝒱₀ (c : Thread nD τ) none Set.univ (m := m) (r := r) (f := f) (S := (m.access r).set) (Finset.Subset.refl _)) $$ H
  iintro H
  rw [show (m.access r).read (Elt F) f = Y from hf]
  iapply Hk
  iexists f; isplitr; · ipureintro; exact hf
  iexact H

/-- Storing to such a part. -/
theorem store_slice {α : Type} {Q : α → sProp 𝕄} {s : Shape} {m : Memref sig .tc .vmem s .f32} {r : Rect s} {hr : ∀ a, r.stride a = 1} (w : r.shape.Idx → Elt F .f32)
    {hx : (m.access r).Stores Finset.univ} {hm : (Finset.univ : Finset r.shape.Idx) = Finset.univ ∨ ∀ a, r.stride a = 1}
    {k : PUnit → Prog (TpuEff nD τ sig (Elt F) Λ₀ .tc) α} :
    (loose c (m.slice r hr) : sProp 𝕄)
      ⊢ iprop((has c (m.slice r hr) w -∗ run c (k ⟨⟩) Q) -∗ run c (.op (.store m r w Finset.univ hx hm) k) Q) := by
  unfold loose has ownsTc owns
  iintro ⟨%Y, %f, %hf, H⟩ Hk
  iapply (wp_store 𝒱₀ (c : Thread nD τ) none Set.univ (m := m) (r := r) (w := w) (Mk := Finset.univ) (f := f) (S := (m.access r).set)
    (View.setOn_univ _).subset) $$ H
  iintro H
  iapply Hk
  iexists ((m.access r).write (Elt F) f w Finset.univ)
  isplitr; · ipureintro; exact View.read_write_univ _ _
  iexact H

/-! ## The partial products -/

/-- The rows of `x` of class `i` in chunk `r` are loaded. -/
theorem load_x {α : Type} {Q : α → sProp 𝕄} (i : ℕ) (r : Dev nD) {off : Fin 2 → ℕ} (ho : off = offs i r) {inb : ∀ a, off a + S128x512.size a ≤ S2048x512.size a}
    {hl : (xM : Memref sig .tc .vmem S2048x512 .f32).view.LoadsAt (Rect.unit (s := S2048x512) off S128x512.size inb).toLoadRect}
    {k : (S128x512.Idx → Elt F .f32) → Prog (TpuEff nD τ sig (Elt F) Λ₀ .tc) α} :
    (St X W c K gn sn rn an wn : sProp 𝕄)
      ⊢ iprop((St X W c K gn sn rn an wn -∗ run c (k (xrows X i r c)) Q)
        -∗ run c (.op (.load xM (Rect.unit (s := S2048x512) off S128x512.size inb).toLoadRect hl) k) Q) := by
  subst ho
  unfold St has ownsTc
  rw [owns_whole_eq (c : Thread nD τ) cc0_stg0_0]
  iintro ⟨HK, HO, ⟨%f, %hf, Hx⟩, HR⟩ Hk
  subst hf
  iapply (wp_load_rect 𝒱₀ (c : Thread nD τ) none Set.univ (m := xM) (r := xR i r) (f := X c) (S := Finset.univ) (Finset.subset_univ _)) $$ Hx
  iintro Hx
  rw [read_x X i r c]
  iapply Hk
  isplitl [HK]; · iexact HK
  isplitl [HO]; · iexact HO
  isplitl [Hx]
  · iexists X c; isplitr; · (ipureintro; rfl)
    iexact Hx
  iexact HR

/-- All of `w` is loaded. -/
theorem load_w {α : Type} {Q : α → sProp 𝕄} {inb : ∀ a, (![0, 0] : Fin 2 → ℕ) a + S512x2048.size a ≤ S512x2048.size a}
    {hl : (wM : Memref sig .tc .vmem S512x2048 .f32).view.LoadsAt (Rect.unit (s := S512x2048) ![0, 0] S512x2048.size inb).toLoadRect}
    {k : (S512x2048.Idx → Elt F .f32) → Prog (TpuEff nD τ sig (Elt F) Λ₀ .tc) α} :
    (St X W c K gn sn rn an wn : sProp 𝕄)
      ⊢ iprop((St X W c K gn sn rn an wn -∗ run c (k (W c)) Q)
        -∗ run c (.op (.load wM (Rect.unit (s := S512x2048) ![0, 0] S512x2048.size inb).toLoadRect hl) k) Q) := by
  unfold St has ownsTc
  rw [owns_whole_eq (c : Thread nD τ) cc0_stg1_0]
  iintro ⟨HK, HO, Hx, ⟨%f, %hf, Hw⟩, HR⟩ Hk
  subst hf
  iapply (wp_load 𝒱₀ (c : Thread nD τ) none Set.univ (m := wM) (f := W c) (S := Finset.univ) (Finset.subset_univ _)) $$ Hw
  iintro Hw
  rw [show (wM : Memref sig .tc .vmem S512x2048 .f32).view.readAt (Elt F) (Rect.unit (s := S512x2048) ![0, 0] S512x2048.size inb).toLoadRect (W c) = W c
    from Memref.readAt_unit_zero (Elt F) cc0_stg1_0 (by funext a; fin_cases a <;> rfl) _ _]
  iapply Hk
  isplitl [HK]; · iexact HK
  isplitl [HO]; · iexact HO
  isplitl [Hx]; · iexact Hx
  isplitl [Hw]
  · iexists W c; isplitr; · (ipureintro; rfl)
    iexact Hw
  iexact HR

/-- A load of an output slot that nothing has come for, whatever it holds: the kernel loads it before it stores it. -/
theorem load_dead {α : Type} {Q : α → sProp 𝕄} (j : ℕ) {off : Fin 2 → ℕ} (ho : off = offs j (rot j (3 * (j / 4)) c)) (h1 : sn ≤ j) (h2 : j < 16) (h3 : j < 4 ∨ 4 + an ≤ j)
    {inb : ∀ a, off a + S128x2048.size a ≤ S2048x2048.size a}
    {hl : (oM : Memref sig .tc .vmem S2048x2048 .f32).view.LoadsAt (Rect.unit (s := S2048x2048) off S128x2048.size inb).toLoadRect}
    {k : (S128x2048.Idx → Elt F .f32) → Prog (TpuEff nD τ sig (Elt F) Λ₀ .tc) α} :
    (St X W c K gn sn rn an wn : sProp 𝕄)
      ⊢ iprop((∀ v, St X W c K gn sn rn an wn -∗ run c (k v) Q)
        -∗ run c (.op (.load oM (Rect.unit (s := S2048x2048) off S128x2048.size inb).toLoadRect hl) k) Q) := by
  subst ho
  unfold St
  iintro ⟨HK, HO, Hx, Hw, Ht, Hr, Hc, Hd, Hu, Ho, Hn, Hg, HS⟩ Hk
  ihave HS := (slots_peek X W c j h1 h2 h3) $$ HS
  icases HS with ⟨HF, HS⟩
  ihave HF := (fresh_peek X W c gn j) $$ HF
  icases HF with ⟨%Y, HF, HB⟩
  iapply (load_slice c (m := oM) (r := oR j (rot j (3 * (j / 4)) c)) (hr := fun _ => rfl) Y) $$ HF
  iintro HF
  ihave HF := HB $$ HF
  ihave HS := HS $$ HF
  iapply Hk
  isplitl [HK]; · iexact HK
  isplitl [HO]; · iexact HO
  isplitl [Hx]; · iexact Hx
  isplitl [Hw]; · iexact Hw
  isplitl [Ht]; · iexact Ht
  isplitl [Hr]; · iexact Hr
  isplitl [Hc]; · iexact Hc
  isplitl [Hd]; · iexact Hd
  isplitl [Hu]; · iexact Hu
  isplitl [Ho]; · iexact Ho
  isplitl [Hn]; · iexact Hn
  isplitl [Hg]; · iexact Hg
  iexact HS

/-- The next partial product is stored. -/
theorem store_gemm {α : Type} {Q : α → sProp 𝕄} (j : ℕ) {off : Fin 2 → ℕ} (ho : off = offs j (rot j (3 * (j / 4)) c))
    (h1 : sn ≤ j) (h2 : j < 16) (h3 : j < 4 ∨ 4 + an ≤ j) (hp : pos j = gn)
    {inb : ∀ a, off a + S128x2048.size a ≤ S2048x2048.size a} {w : FVec F S128x2048 .f32}
    (hw : w = prod X W j (rot j (3 * (j / 4)) c) c)
    {hx : ((oM : Memref sig .tc .vmem S2048x2048 .f32).access (Rect.unit (s := S2048x2048) off S128x2048.size inb)).Stores Finset.univ}
    {hm : (Finset.univ : Finset S128x2048.Idx) = Finset.univ ∨ ∀ a, (Rect.unit (s := S2048x2048) off S128x2048.size inb).stride a = 1}
    {k : PUnit → Prog (TpuEff nD τ sig (Elt F) Λ₀ .tc) α} :
    (St X W c K gn sn rn an wn : sProp 𝕄)
      ⊢ iprop((St X W c K (gn + 1) sn rn an wn -∗ run c (k ⟨⟩) Q)
        -∗ run c (.op (.store oM (Rect.unit (s := S2048x2048) off S128x2048.size inb) w Finset.univ hx hm) k) Q) := by
  subst ho hw
  unfold St
  iintro ⟨HK, HO, Hx, Hw, Ht, Hr, Hc, Hd, Hu, Ho, Hn, Hg, HS⟩ Hk
  ihave HS := (slots_gemm X W c j h1 h2 h3 hp) $$ HS
  icases HS with ⟨HF, HS⟩
  iapply (store_slice c (m := oM) (r := oR j (rot j (3 * (j / 4)) c)) (hr := fun _ => rfl) _) $$ HF
  iintro HF
  ihave HS := HS $$ HF
  iapply Hk
  isplitl [HK]; · iexact HK
  isplitl [HO]; · iexact HO
  isplitl [Hx]; · iexact Hx
  isplitl [Hw]; · iexact Hw
  isplitl [Ht]; · iexact Ht
  isplitl [Hr]; · iexact Hr
  isplitl [Hc]; · iexact Hc
  isplitl [Hd]; · iexact Hd
  isplitl [Hu]; · iexact Hu
  isplitl [Ho]; · iexact Ho
  isplitl [Hn]; · iexact Hn
  isplitl [Hg]; · iexact Hg
  iexact HS

/-! ## Taking up what has come -/

/-- The partial product of a slot is loaded. -/
theorem load_own {α : Type} {Q : α → sProp 𝕄} (j : ℕ) {off : Fin 2 → ℕ} (ho : off = offs j (rot j (3 * (j / 4)) c))
    (h1 : sn ≤ j) (h2 : j < 16) (h3 : j < 4 ∨ 4 + an ≤ j) (hp : pos j < gn)
    {inb : ∀ a, off a + S128x2048.size a ≤ S2048x2048.size a}
    {hl : (oM : Memref sig .tc .vmem S2048x2048 .f32).view.LoadsAt (Rect.unit (s := S2048x2048) off S128x2048.size inb).toLoadRect}
    {k : (S128x2048.Idx → Elt F .f32) → Prog (TpuEff nD τ sig (Elt F) Λ₀ .tc) α} :
    (St X W c K gn sn rn an wn : sProp 𝕄)
      ⊢ iprop((St X W c K gn sn rn an wn -∗ run c (k (prod X W j (rot j (3 * (j / 4)) c) c)) Q)
        -∗ run c (.op (.load oM (Rect.unit (s := S2048x2048) off S128x2048.size inb).toLoadRect hl) k) Q) := by
  subst ho
  unfold St
  iintro ⟨HK, HO, Hx, Hw, Ht, Hr, Hc, Hd, Hu, Ho, Hn, Hg, HS⟩ Hk
  ihave HS := (slots_peek X W c j h1 h2 h3) $$ HS
  rw [fresh_done X W c gn j hp]
  icases HS with ⟨HF, HS⟩
  iapply (load_slice c (m := oM) (r := oR j (rot j (3 * (j / 4)) c)) (hr := fun _ => rfl) _) $$ HF
  iintro HF
  ihave HS := HS $$ HF
  iapply Hk
  isplitl [HK]; · iexact HK
  isplitl [HO]; · iexact HO
  isplitl [Hx]; · iexact Hx
  isplitl [Hw]; · iexact Hw
  isplitl [Ht]; · iexact Ht
  isplitl [Hr]; · iexact Hr
  isplitl [Hc]; · iexact Hc
  isplitl [Hd]; · iexact Hd
  isplitl [Hu]; · iexact Hu
  isplitl [Ho]; · iexact Ho
  isplitl [Hn]; · iexact Hn
  isplitl [Hg]; · iexact Hg
  iexact HS

/-- What has landed is loaded: added to anything, it gives the sum with what the neighbour sent. -/
theorem load_landed {α : Type} {Q : α → sProp 𝕄} (n : ℕ) (hn : n < 12) {off : Fin 4 → ℕ} (ho : off = loffs n)
    {inb : ∀ a, off a + S1x1x128x2048.size a ≤ S2x6x128x2048.size a}
    {hl : (lM : Memref sig .tc .vmem S2x6x128x2048 .f32).view.LoadsAt (Rect.unit (s := S2x6x128x2048) off S1x1x128x2048.size inb).toLoadRect}
    {k : (S1x1x128x2048.Idx → Elt F .f32) → Prog (TpuEff nD τ sig (Elt F) Λ₀ .tc) α} :
    (landed X W n c : sProp 𝕄)
      ⊢ iprop((∀ v, ⌜∀ a, k0_pay20 (F := F) a v = addf a (val X W n (bwd n c))⌝ -∗ landed X W n c -∗ run c (k v) Q)
        -∗ run c (.op (.load lM (Rect.unit (s := S2x6x128x2048) off S1x1x128x2048.size inb).toLoadRect hl) k) Q) := by
  subst ho
  unfold landed target has ownsTc owns
  rw [if_pos hn]
  iintro ⟨⟨%f, %hf, H⟩, HC⟩ Hk
  iapply (wp_load_rect 𝒱₀ (c : Thread nD τ) none Set.univ (m := lM) (r := lR n) (f := f) (S := (lS n).view.set)
    (View.set_reshape _ _).symm.subset) $$ H
  iintro H
  iapply Hk
  · ipureintro
    intro a
    rw [sum_eq a n f, hf]
  isplitl [H]
  · iexists f; isplitr; · ipureintro; exact hf
    iexact H
  iexact HC

/-- The sum is stored: the slot is ready for the next stage. -/
theorem store_sum {α : Type} {Q : α → sProp 𝕄} (n : ℕ) (hn : n < 12) {off : Fin 2 → ℕ}
    (ho : off = offs (n + 4) (rot (n + 4) (3 * ((n + 4) / 4)) c)) (h1 : sn ≤ n + 4)
    {inb : ∀ a, off a + S128x2048.size a ≤ S2048x2048.size a} {w : FVec F S128x2048 .f32} (hw : w = val X W (n + 4) c)
    {hx : ((oM : Memref sig .tc .vmem S2048x2048 .f32).access (Rect.unit (s := S2048x2048) off S128x2048.size inb)).Stores Finset.univ}
    {hm : (Finset.univ : Finset S128x2048.Idx) = Finset.univ ∨ ∀ a, (Rect.unit (s := S2048x2048) off S128x2048.size inb).stride a = 1}
    {k : PUnit → Prog (TpuEff nD τ sig (Elt F) Λ₀ .tc) α} :
    (iprop(St X W c K gn sn rn n wn ∗ landed X W n c) : sProp 𝕄)
      ⊢ iprop((St X W c K gn sn rn (n + 1) wn -∗ run c (k ⟨⟩) Q)
        -∗ run c (.op (.store oM (Rect.unit (s := S2048x2048) off S128x2048.size inb) w Finset.univ hx hm) k) Q) := by
  subst ho hw
  unfold St landed target
  rw [if_pos hn]
  iintro ⟨⟨HK, HO, Hx, Hw, Ht, Hr, Hc, Hd, Hu, Ho, Hn, Hg, HS⟩, HL, HC⟩ Hk
  ihave HS := (slots_take X W c h1 (by omega)) $$ HS
  rw [slotAt_fresh X W c gn n (n + 4) (.inr (by omega)) (by omega)]
  icases HS with ⟨HF, HS⟩
  ihave HF := (fresh_loose X W c gn (n + 4)) $$ HF
  iapply (store_slice c (m := oM) (r := oR (n + 4) (rot (n + 4) (3 * ((n + 4) / 4)) c)) (hr := fun _ => rfl) _) $$ HF
  iintro HF
  ihave HS := HS $$ [HF HC]
  · unfold ready
    rw [show (car (F := F) (n + 4) ((n + 4) / 4) c : sProp 𝕄) = car n (n / 4 + 1) c by
      rw [car_class, Nat.add_div_right n (by decide)]]
    isplitl [HF] <;> iassumption
  iapply Hk
  isplitl [HK]; · iexact HK
  isplitl [HO]; · iexact HO
  isplitl [Hx]; · iexact Hx
  isplitl [Hw]; · iexact Hw
  isplitl [Ht]; · iexact Ht
  isplitl [Hr]; · iexact Hr
  isplitl [Hc]; · iexact Hc
  isplitl [Hd]; · iexact Hd
  isplitl [Hu HL]
  · unfold used
    rw [bigSep_range_succ, if_pos hn]
    isplitl [HL]; · iapply (loose_intro c (lS n) _); iexact HL
    iexact Hu
  isplitl [Ho]; · iexact Ho
  isplitl [Hn]; · iexact Hn
  isplitl [Hg]; · iexact Hg
  iexact HS

/-! ## Waiting -/

/-- Each bundle gives up its first element. -/
theorem toks_pop (h : sn < 24) : (toks (F := F) c sn : sProp 𝕄)
    ⊢ iprop((dutyTok ER (sendCell sn c) 0 false ∗ dutyTok ER (recvCell sn (fwd sn c)) 0 false) ∗ toks c (sn + 1)) :=
  (bigSep_Ico_succ_bot h _).le
theorem room_pop (h : sn < 12) : (room (F := F) c sn : sProp 𝕄) ⊢ iprop(loose (fwd sn c) (lS sn) ∗ room c (sn + 1)) :=
  (bigSep_Ico_succ_bot h _).le
theorem comes_pop (h : rn < 24) : (comes (F := F) c rn : sProp 𝕄)
    ⊢ iprop((atPos ER (recvCell rn c) 0 ∅ 0 ∗ cred (tallyAt (recvCell rn c) () N)) ∗ comes c (rn + 1)) :=
  (bigSep_Ico_succ_bot h _).le
theorem outs_pop (h : wn < 24) : (outs (F := F) c wn : sProp 𝕄) ⊢ iprop(atPos ER (sendCell wn c) 0 ∅ 0 ∗ outs c (wn + 1)) :=
  (bigSep_Ico_succ_bot h _).le
theorem under_pop (h : wn < sn) : (under (F := F) c wn sn : sProp 𝕄)
    ⊢ iprop(cred (tallyAt (sendCell wn c) () N) ∗ under c (wn + 1) sn) :=
  (bigSep_Ico_succ_bot h _).le

/-- A wait for one transfer's semaphore, which closes it. -/
theorem wait_xfer {α : Type} {Q : α → sProp 𝕄} (q : DmaSem sig) (κ : ℕ) (n : ℕ)
    (hd : (plan X W).duties ((c : Thread nD τ), .dma q) 0 = {false}) (he : (plan X W).expect ((c : Thread nD τ), .dma q) 0 = N)
    {src dst : Memref sig .tc .vmem S128x2048 .f32} {hsrc : src.view.WordExact} {hdst : dst.view.WordExact} (hN : dst.view.dmaCredit = N)
    {k : PUnit → Prog (TpuEff nD τ sig (Elt F) Λ₀ .tc) α} :
    (iprop(cellInv ER (plan X W) κ ((c : Thread nD τ), .dma q) ∗ cred (tallyAt ((c : Thread nD τ), SemLoc.dma q) () N) ∗ debt c n
        ∗ MayWait (c : Thread nD τ) (.dma q) () (owed n c) ∗ atPos ER ((c : Thread nD τ), .dma q) 0 ∅ 0) : sProp 𝕄)
      ⊢ iprop(((debt c n ∗ semVal ((c : Thread nD τ), SemLoc.dma q) 0 ∗ (plan X W).payload ((c : Thread nD τ), .dma q) 0 false) -∗ run c (k ⟨⟩) Q)
        -∗ run c (.op (.waitDma2 q src dst hsrc hdst) k) Q) := by
  unfold debt
  iintro ⟨#HI, Hc, ⟨%Wt, HO⟩, HM, Hat⟩ Hk
  iapply (Rounds.wp_wait_rest_token 𝒱₀ ER (plan X W) (c : Thread nD τ) none (κ := κ)
      (wpE_waitDma2_eq 𝒱₀ (c : Thread nD τ) none Set.univ) (Set.mem_univ _) () (O := owed n c) (W := Wt) (R := 0) (m := 0) (T := ∅)
      (by rw [Nat.zero_add, hN, he])) $$ [Hc HO HM Hat]
  · isplitr; · iexact HI
    isplitl [Hc]; · rw [hN]; iexact Hc
    isplitl [HO]; · iexact HO
    isplitl [HM]; · iexact HM
    iexact Hat
  rw [Finset.sdiff_empty, hd, bigSep_singleton]
  iintro ⟨HO, Hat, -, Hpay⟩
  imod (Rounds.cell_close ER (plan X W) (Set.mem_univ κ) (fun h => h) (R := 0 + 1) (duties_later X W _)) $$ [Hat] with Hz
  · isplitr; · iexact HI
    iexact Hat
  iapply Hk
  isplitl [HO]; · iexists _; iexact HO
  isplitl [Hz] <;> iassumption

/-- The wait for a landing in a landing slot. -/
theorem wait_landing {α : Type} {Q : α → sProp 𝕄} (n : ℕ) (hn : n < 12) (h1 : n < sn) {q : DmaSem sig} (hq : q = recvS n)
    {src dst : Memref sig .tc .vmem S128x2048 .f32} {hsrc : src.view.WordExact} {hdst : dst.view.WordExact} (hN : dst.view.dmaCredit = N)
    {k : PUnit → Prog (TpuEff nD τ sig (Elt F) Λ₀ .tc) α} :
    (St X W c K gn sn n an wn : sProp 𝕄)
      ⊢ iprop(((St X W c K gn sn (n + 1) an wn ∗ landed X W n c) -∗ run c (k ⟨⟩) Q)
        -∗ run c (.op (.waitDma2 q src dst hsrc hdst) k) Q) := by
  subst hq
  have h24 : n < 24 := by omega
  unfold St
  iintro ⟨#HK, HO, Hx, Hw, Ht, Hr, Hc, Hd, Hu, Ho, Hn, Hg, HS⟩ Hk
  ihave Hc := (comes_pop c h24) $$ Hc
  icases Hc with ⟨⟨Hat, Hcr⟩, Hc⟩
  iapply (wait_xfer X W c (recvS n) (K (c, some (true, ⟨n, h24⟩))) sn (duties_recv X W c n) (expect_recv X W c n) hN) $$ [Hat Hcr HO]
  · isplitr; · iapply (know_recv X W K c n h24); iexact HK
    isplitl [Hcr]; · iexact Hcr
    isplitl [HO]; · iexact HO
    isplitr
    · iapply (mayWait_of c (.dma (recvS n)) sn (by rw [show lvOf (.dma (recvS n)) = n + 2 from lv_recv n h24 c]; omega))
      iapply (know_lev X W K); iexact HK
    iexact Hat
  rw [payload_recv X W c n h24]
  iintro ⟨HO, Hz, HL⟩
  iapply Hk
  isplitr [HL]
  · isplitr; · iexact HK
    isplitl [HO]; · iexact HO
    isplitl [Hx]; · iexact Hx
    isplitl [Hw]; · iexact Hw
    isplitl [Ht]; · iexact Ht
    isplitl [Hr]; · iexact Hr
    isplitl [Hc]; · iexact Hc
    isplitl [Hd Hz]
    · unfold came; rw [bigSep_range_succ]
      isplitl [Hz] <;> iassumption
    isplitl [Hu]; · iexact Hu
    isplitl [Ho]; · iexact Ho
    isplitl [Hn]; · iexact Hn
    isplitl [Hg]; · iexact Hg
    iexact HS
  iexact HL

/-- The wait for a landing in a slot of the output: that slot is ready for the next stage at once. -/
theorem wait_passing {α : Type} {Q : α → sProp 𝕄} (n : ℕ) (hn : 12 ≤ n) (h24 : n < 24) (h1 : n < sn) (h2 : sn ≤ n + 4)
    {q : DmaSem sig} (hq : q = recvS n)
    {src dst : Memref sig .tc .vmem S128x2048 .f32} {hsrc : src.view.WordExact} {hdst : dst.view.WordExact} (hN : dst.view.dmaCredit = N)
    {k : PUnit → Prog (TpuEff nD τ sig (Elt F) Λ₀ .tc) α} :
    (St X W c K gn sn n n wn : sProp 𝕄)
      ⊢ iprop((St X W c K gn sn (n + 1) (n + 1) wn -∗ run c (k ⟨⟩) Q)
        -∗ run c (.op (.waitDma2 q src dst hsrc hdst) k) Q) := by
  subst hq
  unfold St
  iintro ⟨#HK, HO, Hx, Hw, Ht, Hr, Hc, Hd, Hu, Ho, Hn, Hg, HS⟩ Hk
  ihave Hc := (comes_pop c h24) $$ Hc
  icases Hc with ⟨⟨Hat, Hcr⟩, Hc⟩
  iapply (wait_xfer X W c (recvS n) (K (c, some (true, ⟨n, h24⟩))) sn (duties_recv X W c n) (expect_recv X W c n) hN) $$ [Hat Hcr HO]
  · isplitr; · iapply (know_recv X W K c n h24); iexact HK
    isplitl [Hcr]; · iexact Hcr
    isplitl [HO]; · iexact HO
    isplitr
    · iapply (mayWait_of c (.dma (recvS n)) sn (by rw [show lvOf (.dma (recvS n)) = n + 2 from lv_recv n h24 c]; omega))
      iapply (know_lev X W K); iexact HK
    iexact Hat
  rw [payload_recv X W c n h24, landed_ready X W c n hn]
  iintro ⟨HO, Hz, HL⟩
  ihave HS := (slots_take X W c h2 h24) $$ HS
  rw [slotAt_none X W c gn n (n + 4) (by omega) (by omega)]
  icases HS with ⟨-, HS⟩
  ihave HS := HS $$ HL
  iapply Hk
  isplitr; · iexact HK
  isplitl [HO]; · iexact HO
  isplitl [Hx]; · iexact Hx
  isplitl [Hw]; · iexact Hw
  isplitl [Ht]; · iexact Ht
  isplitl [Hr]; · iexact Hr
  isplitl [Hc]; · iexact Hc
  isplitl [Hd Hz]
  · unfold came; rw [bigSep_range_succ]
    isplitl [Hz] <;> iassumption
  isplitl [Hu]
  · unfold used; rw [bigSep_range_succ, if_neg (by omega)]
    isplitr; · iempintro
    iexact Hu
  isplitl [Ho]; · iexact Ho
  isplitl [Hn]; · iexact Hn
  isplitl [Hg]; · iexact Hg
  iexact HS

/-- The wait for a transfer to have read its source, once all are started. -/
theorem wait_sent {α : Type} {Q : α → sProp 𝕄} (n : ℕ) (h24 : n < 24) {q : DmaSem sig} (hq : q = sendS n)
    {src dst : Memref sig .tc .vmem S128x2048 .f32} {hsrc : src.view.WordExact} {hdst : dst.view.WordExact} (hN : dst.view.dmaCredit = N)
    {k : PUnit → Prog (TpuEff nD τ sig (Elt F) Λ₀ .tc) α} :
    (St X W c K gn 24 rn an n : sProp 𝕄)
      ⊢ iprop((St X W c K gn 24 rn an (n + 1) -∗ run c (k ⟨⟩) Q)
        -∗ run c (.op (.waitDma2 q src dst hsrc hdst) k) Q) := by
  subst hq
  unfold St
  iintro ⟨#HK, HO, Hx, Hw, Ht, Hr, Hc, Hd, Hu, Ho, Hn, Hg, HS⟩ Hk
  ihave Ho := (outs_pop c h24) $$ Ho
  ihave Hn := (under_pop c h24) $$ Hn
  icases Ho with ⟨Hat, Ho⟩
  icases Hn with ⟨Hcr, Hn⟩
  iapply (wait_xfer X W c (sendS n) (K (c, some (false, ⟨n, h24⟩))) 24 (duties_send X W c n) (expect_send X W c n) hN) $$ [Hat Hcr HO]
  · isplitr; · iapply (know_send X W K c n h24); iexact HK
    isplitl [Hcr]; · iexact Hcr
    isplitl [HO]; · iexact HO
    isplitr
    · rw [owed_end, MayWait_zero]; iempintro
    iexact Hat
  rw [payload_send X W c n h24]
  iintro ⟨HO, Hz, HL⟩
  iapply Hk
  isplitr; · iexact HK
  isplitl [HO]; · iexact HO
  isplitl [Hx]; · iexact Hx
  isplitl [Hw]; · iexact Hw
  isplitl [Ht]; · iexact Ht
  isplitl [Hr]; · iexact Hr
  isplitl [Hc]; · iexact Hc
  isplitl [Hd]; · iexact Hd
  isplitl [Hu]; · iexact Hu
  isplitl [Ho]; · iexact Ho
  isplitl [Hn]; · iexact Hn
  isplitl [Hg Hz HL]
  · unfold went; rw [bigSep_range_succ]
    isplitr [Hg]
    · isplitl [Hz] <;> iassumption
    iexact Hg
  iexact HS

/-! ## Sending -/

/-- A send to a landing slot: with the partial sum go the slots under way, the sender's own among them. -/
theorem send_sum {α : Type} {Q : α → sProp 𝕄} (n : ℕ) (hn : n < 12) (h1 : n < 4 + an) (h2 : n < 4 → pos n < gn) (h3 : wn ≤ n)
    {e : Dev nD} (he : e = fwd n c) {src : Memref sig .tc .vmem S128x2048 .f32} (hs : src = srcS c n)
    {dst : Memref sig (Dev.tc e : Thread nD τ).2.kind .vmem S128x2048 .f32} (ht : dst = lS n)
    {sR vR : DmaSem sig} (hsR : sR = sendS n) (hvR : vR = recvS n) {hsc : dst.view.ref.isScScratch = false}
    {hsrc : src.view.WordExact} {hdst : dst.view.WordExact}
    {hsem : DmaTarget.Typed .vmem (.dma vR) (.remote (Dev.tc e : Thread nD τ) dst (.dma sR) hsc)}
    {k : PUnit → Prog (TpuEff nD τ sig (Elt F) Λ₀ .tc) α} :
    (St X W c K gn n rn an wn : sProp 𝕄)
      ⊢ iprop((St X W c K gn (n + 1) rn an wn -∗ run c (k ⟨⟩) Q)
        -∗ run c (.op (.enqueueDma src (.remote (Dev.tc e : Thread nD τ) dst (.dma sR) hsc) (.dma vR) hsrc hdst hsem) k) Q) := by
  subst he hs ht hsR hvR
  have h24 : n < 24 := by omega
  unfold St debt
  iintro ⟨#HK, ⟨%Wt, HO⟩, Hx, Hw, Ht, Hr, Hc, Hd, Hu, Ho, Hn, Hg, HS⟩ Hk
  ihave HS := (slots_send X W c h24 h1 h2) $$ HS
  icases HS with ⟨HF, HS⟩
  unfold ready
  icases HF with ⟨Hs, HC⟩
  ihave Ht := (toks_pop c h24) $$ Ht
  ihave Hr := (room_pop c hn) $$ Hr
  icases Ht with ⟨⟨Hts, Htr⟩, Ht⟩
  icases Hr with ⟨Hl, Hr⟩
  unfold loose has ownsTc owns
  icases Hs with ⟨%fs, %hfs, Hs⟩
  icases Hl with ⟨%Y, %fd, %hY, Hl⟩
  iapply (Rounds.wp_send_landing_pointsTo_with 𝒱₀ ER (plan X W) (c : Thread nD τ) none (c' := (fwd n c : Thread nD τ))
    (src := srcS c n) (dst := lS n) (sS := .dma (sendS n)) (sem := .dma (recvS n)) (fs := fs) (fd := fd)
    (F := car (F := F) n (n / 4) c)
    (κ₁ := K (c, some (false, ⟨n, h24⟩))) (κ₂ := K (fwd n c, some (true, ⟨n, h24⟩))) (r₁ := 0) (r₂ := 0) (d₁ := false) (d₂ := false)
    (by rw [duties_send X W c n]; exact Finset.mem_singleton_self _) (by rw [duties_recv X W (fwd n c) n]; exact Finset.mem_singleton_self _)
    () () N rfl rfl rfl (owed (n + 1) c) (owed_step n h24 c) (W := Wt)
    (by rw [payload_send X W c n h24]; unfold back; rw [if_pos hn])
    (by
      rw [payload_recv X W (fwd n c) n h24]
      unfold landed target
      rw [if_pos hn, bwd_fwd]
      unfold has ownsTc owns
      iintro ⟨⟨HL, HC⟩, HB⟩
      isplitl [HL]
      · iexists _
        isplitr
        · ipureintro; exact (View.read_write_univ fd _).trans hfs
        iexact HL
      iapply (car_add n (n / 4) (by omega) c)
      isplitl [HC]; · iexact HC
      iapply (loose_intro c (srcS c n) (val X W n c))
      unfold has ownsTc owns
      iexists fs
      isplitr; · ipureintro; exact hfs
      iexact HB)) $$ [Hs Hl HC HO Hts Htr]
  · isplitr; · iapply (know_send X W K c n h24); iexact HK
    isplitr; · iapply (know_recv X W K (fwd n c) n h24); iexact HK
    isplitl [Hs]; · iexact Hs
    isplitl [Hl HC]; · isplitl [Hl] <;> iassumption
    isplitl [HO]; · iexact HO
    isplitl [Hts]; · iexact Hts
    isplitr; · iapply (know_send' X W K c n h24); iexact HK
    isplitl [Htr]; · iexact Htr
    iapply (know_recv' X W K (fwd n c) n h24); iexact HK
  iintro ⟨Hcr, HO⟩
  iapply Hk
  isplitr; · iexact HK
  isplitl [HO]; · iexists Wt; iexact HO
  isplitl [Hx]; · iexact Hx
  isplitl [Hw]; · iexact Hw
  isplitl [Ht]; · iexact Ht
  isplitl [Hr]; · iexact Hr
  isplitl [Hc]; · iexact Hc
  isplitl [Hd]; · iexact Hd
  isplitl [Hu]; · iexact Hu
  isplitl [Ho]; · iexact Ho
  isplitl [Hn Hcr]
  · unfold under; rw [bigSep_Ico_succ_top h3]
    isplitl [Hcr] <;> iassumption
  isplitl [Hg]; · iexact Hg
  iexact HS

/-- A send to a slot of the output: the slot ahead is among those `c` has charge of. -/
theorem send_done {α : Type} {Q : α → sProp 𝕄} (n : ℕ) (hn : 12 ≤ n) (h24 : n < 24) (h1 : n < 4 + an) (h3 : wn ≤ n)
    {e : Dev nD} (he : e = fwd n c) {src : Memref sig .tc .vmem S128x2048 .f32} (hs : src = srcS c n)
    {dst : Memref sig (Dev.tc e : Thread nD τ).2.kind .vmem S128x2048 .f32} (ht : dst = srcS c n)
    {sR vR : DmaSem sig} (hsR : sR = sendS n) (hvR : vR = recvS n) {hsc : dst.view.ref.isScScratch = false}
    {hsrc : src.view.WordExact} {hdst : dst.view.WordExact}
    {hsem : DmaTarget.Typed .vmem (.dma vR) (.remote (Dev.tc e : Thread nD τ) dst (.dma sR) hsc)}
    {k : PUnit → Prog (TpuEff nD τ sig (Elt F) Λ₀ .tc) α} :
    (St X W c K gn n rn an wn : sProp 𝕄)
      ⊢ iprop((St X W c K gn (n + 1) rn an wn -∗ run c (k ⟨⟩) Q)
        -∗ run c (.op (.enqueueDma src (.remote (Dev.tc e : Thread nD τ) dst (.dma sR) hsc) (.dma vR) hsrc hdst hsem) k) Q) := by
  subst he hs ht hsR hvR
  have er : room (F := F) c n = room c (n + 1) := by unfold room; rw [Finset.Ico_eq_empty (by omega), Finset.Ico_eq_empty (by omega)]
  unfold St debt
  rw [er]
  iintro ⟨#HK, ⟨%Wt, HO⟩, Hx, Hw, Ht, Hr, Hc, Hd, Hu, Ho, Hn, Hg, HS⟩ Hk
  ihave HS := (slots_send X W c h24 h1 (by omega)) $$ HS
  icases HS with ⟨HF, HS⟩
  unfold ready
  icases HF with ⟨Hs, HC⟩
  ihave HC := (car_take n (n / 4) (by omega) (by omega) c) $$ HC
  unfold loose has ownsTc owns
  icases Hs with ⟨%fs, %hfs, Hs⟩
  icases HC with ⟨⟨%Y, %fd, %hY, Hl⟩, HC⟩
  ihave Ht := (toks_pop c h24) $$ Ht
  icases Ht with ⟨⟨Hts, Htr⟩, Ht⟩
  iapply (Rounds.wp_send_pointsTo_with 𝒱₀ ER (plan X W) (c : Thread nD τ) none (c' := (fwd n c : Thread nD τ))
    (src := srcS c n) (dst := srcS c n) (sS := .dma (sendS n)) (sem := .dma (recvS n)) (fs := fs) (fd := fd)
    (F := car (F := F) n (n / 4 + 1) (fwd n c))
    (κ₁ := K (c, some (false, ⟨n, h24⟩))) (κ₂ := K (fwd n c, some (true, ⟨n, h24⟩))) (r₁ := 0) (r₂ := 0) (d₁ := false) (d₂ := false)
    (by rw [duties_send X W c n]; exact Finset.mem_singleton_self _) (by rw [duties_recv X W (fwd n c) n]; exact Finset.mem_singleton_self _)
    () () N rfl rfl rfl (owed (n + 1) c) (owed_step n h24 c) (W := Wt)
    (by
      rw [payload_send X W c n h24]
      unfold back has ownsTc owns
      rw [if_neg (by omega)]
      iintro HB
      iexists fs; isplitr; · ipureintro; exact hfs
      iexact HB)
    (by
      rw [payload_recv X W (fwd n c) n h24]
      unfold landed target
      rw [if_neg (by omega), bwd_fwd, fwd, rot_rot, rot_congr n (show (3 * (n / 4 + 1) + 1) % 4 = (3 * (n / 4)) % 4 by omega)]
      unfold has ownsTc owns
      iintro ⟨HL, HC⟩
      isplitl [HL]
      · iexists _
        isplitr
        · ipureintro; exact (View.read_write_univ fd _).trans hfs
        iexact HL
      iexact HC)) $$ [Hs Hl HC HO Hts Htr]
  · isplitr; · iapply (know_send X W K c n h24); iexact HK
    isplitr; · iapply (know_recv X W K (fwd n c) n h24); iexact HK
    isplitl [Hs]; · iexact Hs
    isplitl [Hl HC]; · isplitl [Hl] <;> iassumption
    isplitl [HO]; · iexact HO
    isplitl [Hts]; · iexact Hts
    isplitr; · iapply (know_send' X W K c n h24); iexact HK
    isplitl [Htr]; · iexact Htr
    iapply (know_recv' X W K (fwd n c) n h24); iexact HK
  iintro ⟨Hcr, HO⟩
  iapply Hk
  isplitr; · iexact HK
  isplitl [HO]; · iexists Wt; iexact HO
  isplitl [Hx]; · iexact Hx
  isplitl [Hw]; · iexact Hw
  isplitl [Ht]; · iexact Ht
  isplitl [Hr]; · iexact Hr
  isplitl [Hc]; · iexact Hc
  isplitl [Hd]; · iexact Hd
  isplitl [Hu]; · iexact Hu
  isplitl [Ho]; · iexact Ho
  isplitl [Hn Hcr]
  · unfold under; rw [bigSep_Ico_succ_top h3]
    isplitl [Hcr] <;> iassumption
  isplitl [Hg]; · iexact Hg
  iexact HS

end Steps

end Cert.Exchange
-- ==== Proof.Places.lean ====
/-
# Where the kernel's accesses lie

The kernel computes its offsets and its neighbours from the device's number by machine arithmetic. Each of them is
the place of some transfer's slot, or the neighbour in some transfer's direction.
-/
module

public import proofs.«01_k».proof.Proof.Slots

@[expose] public section

noncomputable section

namespace Cert.Exchange

open Cert.KernelIdeal Cert.KernelIdeal.Gen
open Idealize.ShloMosaic Idealize.ShloMosaic.TcCoe

/-- Where the slot of transfer `j` lies on device `c`. -/
abbrev place (j : ℕ) (c : Dev nD) : Fin 2 → ℕ := offs j (rot j (3 * (j / 4)) c)

/-- The class with the `r`-th quarter of a chunk's rows. -/
def quarter (r : ℕ) : ℕ := 2 * (r % 2) + r / 2
/-- The transfer that sends the `r`-th quarter of the chunk `s` devices on. -/
def sender (s r : ℕ) : ℕ := quarter r + 4 * (if r < 2 then 4 - s else s)

/-- The rows of the device's own chunk, of `x` and of the output. -/
theorem off1_at : ∀ (c : Dev nD) (r : Fin 4), k0_off1 c (BitVec.ofNat 32 r.val) = place (quarter r.val) c := by decide +kernel
theorem off2_at : ∀ (c : Dev nD) (r : Fin 4), k0_off2 c (BitVec.ofNat 32 r.val) = place (quarter r.val) c := by decide +kernel
/-- The rows of the other chunks. -/
theorem off5_at : ∀ (c : Dev nD) (s : Fin 3) (r : Fin 4),
    k0_off5 c (BitVec.ofNat 32 (1 + s.val)) (BitVec.ofNat 32 r.val) = place (sender (1 + s.val) r.val) c := by decide +kernel
theorem off6_at : ∀ (c : Dev nD) (s : Fin 3) (r : Fin 4),
    k0_off6 c (BitVec.ofNat 32 (1 + s.val)) (BitVec.ofNat 32 r.val) = place (sender (1 + s.val) r.val) c := by decide +kernel
/-- What is sent in stages 0, 1 and 2, upwards and downwards. -/
theorem off3_at : ∀ (c : Dev nD) (s : Fin 3) (u : Fin 2),
    k0_off3 c (BitVec.ofNat 32 s.val) (BitVec.ofNat 32 u.val) = place (4 * s.val + 2 * u.val) c := by decide +kernel
theorem off4_at : ∀ (c : Dev nD) (s : Fin 3) (u : Fin 2),
    k0_off4 c (BitVec.ofNat 32 s.val) (BitVec.ofNat 32 u.val) = place (4 * s.val + 2 * u.val + 1) c := by decide +kernel
/-- What a landing of those stages is added to. -/
theorem off7_at : ∀ (c : Dev nD) (s : Fin 3) (u : Fin 2),
    k0_off7 c (BitVec.ofNat 32 s.val) (BitVec.ofNat 32 u.val) = place (4 * s.val + 2 * u.val + 4) c := by decide +kernel
theorem off8_at : ∀ (c : Dev nD) (s : Fin 3) (u : Fin 2),
    k0_off8 c (BitVec.ofNat 32 s.val) (BitVec.ofNat 32 u.val) = place (4 * s.val + 2 * u.val + 1 + 4) c := by decide +kernel
/-- What is sent in stages 3, 4 and 5. -/
theorem off9_at : ∀ (c : Dev nD) (s : Fin 3) (u : Fin 2),
    k0_off9 c (BitVec.ofNat 32 s.val) (BitVec.ofNat 32 u.val) = place (4 * s.val + 2 * u.val + 12) c := by decide +kernel
theorem off10_at : ∀ (c : Dev nD) (s : Fin 3) (u : Fin 2),
    k0_off10 c (BitVec.ofNat 32 s.val) (BitVec.ofNat 32 u.val) = place (4 * s.val + 2 * u.val + 1 + 12) c := by decide +kernel

/-- A slice of the output at the place of a transfer's slot is that slot. -/
theorem slice_at (j : ℕ) (c : Dev nD) {off : Fin 2 → ℕ} (h : off = place j c)
    (inb : ∀ a, off a + S128x2048.size a ≤ S2048x2048.size a) :
    (oM.slice (Rect.unit (s := S2048x2048) off S128x2048.size inb) (fun _ => rfl) : Memref sig .tc .vmem S128x2048 .f32)
      = oS j (rot j (3 * (j / 4)) c) := Memref.slice_unit_congr oM h _ _ _ _

end Cert.Exchange
-- ==== Proof.Blocks.lean ====
/-
# The kernel's blocks of operations

The steps once more, as rules that go from the state after an operation to the state before it; the blocks the
kernel repeats, made from them; and how the parts of the kernel follow one another.
-/
module

public import proofs.«01_k».proof.Proof.Steps
public import proofs.«01_k».proof.Proof.Places

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2048x512 .f32) (W : Dev nD → FVec F S512x2048 .f32)

section Blocks
variable (K : Dev nD × Sm → ℕ) (c : Dev nD) {gn sn rn an wn : ℕ}

omit [FloatOps F] in
/-- A step, and the rest from the state it leaves. -/
theorem go {A B C D : sProp 𝕄} (h : A ⊢ iprop((B -∗ C) -∗ D)) (h' : B ⊢ C) : A ⊢ D := by
  refine h.trans ?_
  iintro H
  iapply H
  iintro HB
  iapply h'; iexact HB

omit [FloatOps F] in
/-- The same after a load of something unknown, with something `R` kept beside. -/
theorem goAny {V : Type} {A B D R : sProp 𝕄} {C : V → sProp 𝕄} (h : A ⊢ iprop((∀ v, B -∗ C v) -∗ D))
    (h' : ∀ v, iprop(B ∗ R) ⊢ C v) : iprop(A ∗ R) ⊢ D := by
  iintro ⟨HA, HR⟩
  iapply h $$ HA
  iintro %v HB
  iapply (h' v)
  isplitl [HB] <;> iassumption

omit [FloatOps F] in
/-- The same with something `R` kept beside. -/
theorem goWith {A B C D R : sProp 𝕄} (h : A ⊢ iprop((B -∗ C) -∗ D)) (h' : iprop(B ∗ R) ⊢ C) : iprop(A ∗ R) ⊢ D := by
  iintro ⟨HA, HR⟩
  iapply h $$ HA
  iintro HB
  iapply h'
  isplitl [HB] <;> iassumption

/-- Nothing left to do. -/
theorem stop {α : Type} {A : sProp 𝕄} {Q : α → sProp 𝕄} {v : α} (h : A ⊢ Q v) : A ⊢ run c (.ret v) Q := by
  unfold run
  rw [wp_ret]
  iintro H; imodintro; iapply h; iexact H

/-- One part of the kernel and what follows it: the part leaves a fact about the values it hands on. -/
theorem chain {α β : Type} {A B : sProp 𝕄} {Q : α → sProp 𝕄} {φ : β → Prop} {p : Prog (TpuEff nD τ sig (Elt F) Λ₀ .tc) β}
    {k : β → Prog (TpuEff nD τ sig (Elt F) Λ₀ .tc) α}
    (h : A ⊢ run c p fun r => iprop(⌜φ r⌝ ∗ B)) (h' : ∀ r, φ r → B ⊢ run c (k r) Q) : A ⊢ run c (p >>= k) Q := by
  unfold run
  rw [wp_bind]
  refine h.trans (wp_mono _ _ _ ?_)
  intro r
  iintro ⟨%hr, H⟩
  iapply (h' r hr); iexact H

/-- The same when nothing need be known of those values. -/
theorem chain' {α β : Type} {A B : sProp 𝕄} {Q : α → sProp 𝕄} {p : Prog (TpuEff nD τ sig (Elt F) Λ₀ .tc) β}
    {k : β → Prog (TpuEff nD τ sig (Elt F) Λ₀ .tc) α}
    (h : A ⊢ run c p fun _ => B) (h' : ∀ r, B ⊢ run c (k r) Q) : A ⊢ run c (p >>= k) Q := by
  unfold run
  rw [wp_bind]
  exact h.trans (wp_mono _ _ _ fun r => h' r)

/-- A part of the kernel with something `R` kept beside. -/
theorem beside {α : Type} {A R : sProp 𝕄} {Q' Q : α → sProp 𝕄} {p : Prog (TpuEff nD τ sig (Elt F) Λ₀ .tc) α}
    (h : A ⊢ run c p Q') (h' : ∀ v, iprop(Q' v ∗ R) ⊢ Q v) : iprop(A ∗ R) ⊢ run c p Q := by
  unfold run at h ⊢
  exact (sep_mono_left h).trans ((wp_frame_r _ _ _).trans (wp_mono _ _ _ h'))

/-- A partial product is put in its slot, after a load of what was there. -/
theorem put_gemm {α : Type} {Q : α → sProp 𝕄} (j : ℕ) {off off' : Fin 2 → ℕ} (ho : off = place j c) (ho' : off' = place j c)
    (h1 : sn ≤ j) (h2 : j < 16) (h3 : j < 4 ∨ 4 + an ≤ j) (hp : pos j = gn)
    {inb : ∀ a, off a + S128x2048.size a ≤ S2048x2048.size a} {inb' : ∀ a, off' a + S128x2048.size a ≤ S2048x2048.size a}
    {w : FVec F S128x2048 .f32} (hw : w = prod X W j (rot j (3 * (j / 4)) c) c)
    {hl : (oM : Memref sig .tc .vmem S2048x2048 .f32).view.LoadsAt (Rect.unit (s := S2048x2048) off S128x2048.size inb).toLoadRect}
    {hx : ((oM : Memref sig .tc .vmem S2048x2048 .f32).access (Rect.unit (s := S2048x2048) off' S128x2048.size inb')).Stores Finset.univ}
    {hm : (Finset.univ : Finset S128x2048.Idx) = Finset.univ ∨ ∀ a, (Rect.unit (s := S2048x2048) off' S128x2048.size inb').stride a = 1}
    {k : PUnit → Prog (TpuEff nD τ sig (Elt F) Λ₀ .tc) α}
    (hk : (St X W c K (gn + 1) sn rn an wn : sProp 𝕄) ⊢ run c (k ⟨⟩) Q) :
    (St X W c K gn sn rn an wn : sProp 𝕄)
      ⊢ run c (.op (.load oM (Rect.unit (s := S2048x2048) off S128x2048.size inb).toLoadRect hl) fun _ =>
          .op (.store oM (Rect.unit (s := S2048x2048) off' S128x2048.size inb') w Finset.univ hx hm) k) Q :=
  (sep_emp (PROP := sProp 𝕄)).2.trans (goAny (load_dead X W K c j ho h1 h2 h3) fun _ =>
    (sep_emp (PROP := sProp 𝕄)).1.trans (go (store_gemm X W K c j ho' h1 h2 h3 hp hw) hk))

/-- One partial product: the rows, the weights, the product into its slot. -/
theorem gemm {α : Type} {Q : α → sProp 𝕄} (j : ℕ) {offx off off' : Fin 2 → ℕ} (hox : offx = place j c) (ho : off = place j c) (ho' : off' = place j c)
    (h1 : sn ≤ j) (h2 : j < 16) (h3 : j < 4 ∨ 4 + an ≤ j) (hp : pos j = gn)
    {inbx : ∀ a, offx a + S128x512.size a ≤ S2048x512.size a} {inbw : ∀ a, (![0, 0] : Fin 2 → ℕ) a + S512x2048.size a ≤ S512x2048.size a}
    {inb : ∀ a, off a + S128x2048.size a ≤ S2048x2048.size a} {inb' : ∀ a, off' a + S128x2048.size a ≤ S2048x2048.size a}
    {pay : (S128x512.Idx → Elt F .f32) → (S512x2048.Idx → Elt F .f32) → FVec F S128x2048 .f32} (hpay : ∀ a b, pay a b = k0_pay1 a b)
    {hlx : (xM : Memref sig .tc .vmem S2048x512 .f32).view.LoadsAt (Rect.unit (s := S2048x512) offx S128x512.size inbx).toLoadRect}
    {hlw : (wM : Memref sig .tc .vmem S512x2048 .f32).view.LoadsAt (Rect.unit (s := S512x2048) ![0, 0] S512x2048.size inbw).toLoadRect}
    {hl : (oM : Memref sig .tc .vmem S2048x2048 .f32).view.LoadsAt (Rect.unit (s := S2048x2048) off S128x2048.size inb).toLoadRect}
    {hx : ((oM : Memref sig .tc .vmem S2048x2048 .f32).access (Rect.unit (s := S2048x2048) off' S128x2048.size inb')).Stores Finset.univ}
    {hm : (Finset.univ : Finset S128x2048.Idx) = Finset.univ ∨ ∀ a, (Rect.unit (s := S2048x2048) off' S128x2048.size inb').stride a = 1}
    {k : PUnit → Prog (TpuEff nD τ sig (Elt F) Λ₀ .tc) α}
    (hk : (St X W c K (gn + 1) sn rn an wn : sProp 𝕄) ⊢ run c (k ⟨⟩) Q) :
    (St X W c K gn sn rn an wn : sProp 𝕄)
      ⊢ run c (.op (.load xM (Rect.unit (s := S2048x512) offx S128x512.size inbx).toLoadRect hlx) fun a =>
          .op (.load wM (Rect.unit (s := S512x2048) ![0, 0] S512x2048.size inbw).toLoadRect hlw) fun b =>
          .op (.load oM (Rect.unit (s := S2048x2048) off S128x2048.size inb).toLoadRect hl) fun _ =>
          .op (.store oM (Rect.unit (s := S2048x2048) off' S128x2048.size inb') (pay a b) Finset.univ hx hm) k) Q :=
  go (load_x X W K c j _ hox) (go (load_w X W K c) (put_gemm X W K c j ho ho' h1 h2 h3 hp (hpay _ _) hk))

/-- A landing slot is loaded. -/
theorem take_landed {α : Type} {Q : α → sProp 𝕄} (n : ℕ) (hn : n < 12) {off : Fin 4 → ℕ} (ho : off = loffs n)
    {inb : ∀ a, off a + S1x1x128x2048.size a ≤ S2x6x128x2048.size a}
    {hl : (lM : Memref sig .tc .vmem S2x6x128x2048 .f32).view.LoadsAt (Rect.unit (s := S2x6x128x2048) off S1x1x128x2048.size inb).toLoadRect}
    {k : (S1x1x128x2048.Idx → Elt F .f32) → Prog (TpuEff nD τ sig (Elt F) Λ₀ .tc) α}
    (hk : ∀ v, (∀ a, k0_pay20 (F := F) a v = addf a (val X W n (bwd n c))) →
      iprop(St X W c K gn sn rn an wn ∗ landed X W n c) ⊢ run c (k v) Q) :
    iprop(St X W c K gn sn rn an wn ∗ landed X W n c)
      ⊢ run c (.op (.load lM (Rect.unit (s := S2x6x128x2048) off S1x1x128x2048.size inb).toLoadRect hl) k) Q := by
  iintro ⟨HS, HL⟩
  iapply (load_landed X W c n hn ho) $$ HL
  iintro %v %hv HL
  iapply (hk v hv)
  isplitl [HS] <;> iassumption

/-- A sum is put in its slot, after a load of what was there. -/
theorem put_sum {α : Type} {Q : α → sProp 𝕄} (n : ℕ) (hn : n < 12) {off off' : Fin 2 → ℕ} (ho : off = place (n + 4) c) (ho' : off' = place (n + 4) c)
    (h1 : sn ≤ n + 4)
    {inb : ∀ a, off a + S128x2048.size a ≤ S2048x2048.size a} {inb' : ∀ a, off' a + S128x2048.size a ≤ S2048x2048.size a}
    {w : FVec F S128x2048 .f32} (hw : w = val X W (n + 4) c)
    {hl : (oM : Memref sig .tc .vmem S2048x2048 .f32).view.LoadsAt (Rect.unit (s := S2048x2048) off S128x2048.size inb).toLoadRect}
    {hx : ((oM : Memref sig .tc .vmem S2048x2048 .f32).access (Rect.unit (s := S2048x2048) off' S128x2048.size inb')).Stores Finset.univ}
    {hm : (Finset.univ : Finset S128x2048.Idx) = Finset.univ ∨ ∀ a, (Rect.unit (s := S2048x2048) off' S128x2048.size inb').stride a = 1}
    {k : PUnit → Prog (TpuEff nD τ sig (Elt F) Λ₀ .tc) α}
    (hk : (St X W c K gn sn rn (n + 1) wn : sProp 𝕄) ⊢ run c (k ⟨⟩) Q) :
    iprop(St X W c K gn sn rn n wn ∗ landed X W n c)
      ⊢ run c (.op (.load oM (Rect.unit (s := S2048x2048) off S128x2048.size inb).toLoadRect hl) fun _ =>
          .op (.store oM (Rect.unit (s := S2048x2048) off' S128x2048.size inb') w Finset.univ hx hm) k) Q :=
  goAny (load_dead X W K c (n + 4) ho h1 (by omega) (.inr (by omega))) fun _ => go (store_sum X W K c n hn ho' h1 hw) hk

/-- What has landed is added to the partial product: the slot, the landing slot, the sum into the slot. -/
theorem accumulate {α : Type} {Q : α → sProp 𝕄} (n : ℕ) (hn : n < 12) {offo off off' : Fin 2 → ℕ} {offl : Fin 4 → ℕ}
    (hoo : offo = place (n + 4) c) (hol : offl = loffs n) (ho : off = place (n + 4) c) (ho' : off' = place (n + 4) c)
    (h1 : sn ≤ n + 4) (hp : pos (n + 4) < gn)
    {inbo : ∀ a, offo a + S128x2048.size a ≤ S2048x2048.size a} {inbl : ∀ a, offl a + S1x1x128x2048.size a ≤ S2x6x128x2048.size a}
    {inb : ∀ a, off a + S128x2048.size a ≤ S2048x2048.size a} {inb' : ∀ a, off' a + S128x2048.size a ≤ S2048x2048.size a}
    {pay : (S128x2048.Idx → Elt F .f32) → (S1x1x128x2048.Idx → Elt F .f32) → FVec F S128x2048 .f32} (hpay : ∀ a b, pay a b = k0_pay20 a b)
    {hlo : (oM : Memref sig .tc .vmem S2048x2048 .f32).view.LoadsAt (Rect.unit (s := S2048x2048) offo S128x2048.size inbo).toLoadRect}
    {hll : (lM : Memref sig .tc .vmem S2x6x128x2048 .f32).view.LoadsAt (Rect.unit (s := S2x6x128x2048) offl S1x1x128x2048.size inbl).toLoadRect}
    {hl : (oM : Memref sig .tc .vmem S2048x2048 .f32).view.LoadsAt (Rect.unit (s := S2048x2048) off S128x2048.size inb).toLoadRect}
    {hx : ((oM : Memref sig .tc .vmem S2048x2048 .f32).access (Rect.unit (s := S2048x2048) off' S128x2048.size inb')).Stores Finset.univ}
    {hm : (Finset.univ : Finset S128x2048.Idx) = Finset.univ ∨ ∀ a, (Rect.unit (s := S2048x2048) off' S128x2048.size inb').stride a = 1}
    {k : PUnit → Prog (TpuEff nD τ sig (Elt F) Λ₀ .tc) α}
    (hk : (St X W c K gn sn rn (n + 1) wn : sProp 𝕄) ⊢ run c (k ⟨⟩) Q) :
    iprop(St X W c K gn sn rn n wn ∗ landed X W n c)
      ⊢ run c (.op (.load oM (Rect.unit (s := S2048x2048) offo S128x2048.size inbo).toLoadRect hlo) fun a =>
          .op (.load lM (Rect.unit (s := S2x6x128x2048) offl S1x1x128x2048.size inbl).toLoadRect hll) fun b =>
          .op (.load oM (Rect.unit (s := S2048x2048) off S128x2048.size inb).toLoadRect hl) fun _ =>
          .op (.store oM (Rect.unit (s := S2048x2048) off' S128x2048.size inb') (pay a b) Finset.univ hx hm) k) Q :=
  goWith (load_own X W K c (n + 4) hoo h1 (by omega) (.inr (by omega)) hp) (take_landed X W K c n hn hol fun v hv =>
    put_sum X W K c n hn ho ho' h1 (((hpay _ v).trans (hv _)).trans (val_add X W n hn c).symm) hk)

end Blocks

end Cert.Exchange
-- ==== Proof.Barrier.lean ====
/-
# The barrier

Before it sends anything a device tells both neighbours that it has come, and waits for both. With each of the two
signals it lends the landing slots that the neighbour will send to.
-/
module

public import proofs.«01_k».proof.Proof.Blocks

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2048x512 .f32) (W : Dev nD → FVec F S512x2048 .f32)

section Barrier
variable (K : Dev nD × Sm → ℕ) (c : Dev nD)

/-- The landing slots, before any of them is lent. -/
def lands : sProp 𝕄 := bigSep (Finset.range 12) fun i => loose (F := F) c (lS i)

/-- What the device needs for the barrier: what it owes, its two signals, its own wait, and its landing slots. -/
def gate : sProp 𝕄 :=
  iprop((∃ Wt : Waits sig Unit, owes (c : Thread nD τ) (owedAll c) Wt)
    ∗ (dutyTok ER (barCell (bwd 0 c)) 0 false ∗ dutyTok ER (barCell (bwd 1 c)) 0 true)
    ∗ (atPos ER (barCell c) 0 ∅ 0 ∗ cred (tallyAt (barCell c) () 2)) ∗ lands c)

/-- What the barrier leaves. -/
def passed : sProp 𝕄 := iprop(debt c 0 ∗ room c 0 ∗ semVal (barCell c) 0)

/-- Two transfers of the same parity go the same way. -/
theorem rot_parity {i j : ℕ} (h : i % 2 = j % 2) (s : ℕ) (d : Dev nD) : rot i s d = rot j s d := by
  apply Fin.ext; unfold rot; dsimp only; rw [h]

/-- The landing slots are those of the even transfers and those of the odd ones. -/
theorem by_parity (A : ℕ → sProp 𝕄) :
    (bigSep (Finset.range 12) A : sProp 𝕄)
      = iprop(bigSep ((Finset.range 12).filter fun i => i % 2 = false.toNat) A
        ∗ bigSep ((Finset.range 12).filter fun i => i % 2 = true.toNat) A) := by
  have e : (Finset.range 12).filter (fun i => ¬ i % 2 = false.toNat) = (Finset.range 12).filter fun i => i % 2 = true.toNat := by decide
  rw [← e]; exact bigSep_filter_split _ _

/-- The slots lent to the neighbour behind, in each direction, are the device's own. -/
theorem lent (b : Bool) (j : ℕ) (hj : j % 2 = b.toNat) :
    (barPay (F := F) b (bwd j c) : sProp 𝕄) = bigSep ((Finset.range 12).filter fun i => i % 2 = b.toNat) fun i => loose c (lS i) := by
  unfold barPay
  refine bigSep_congr fun i hi => ?_
  have h := (Finset.mem_filter.mp hi).2
  rw [show fwd i (bwd j c) = fwd j (bwd j c) from rot_parity (h.trans hj.symm) 1 _, fwd_bwd]

/-- The landing slots, as the two neighbours get them. -/
theorem lands_eq : (lands (F := F) c : sProp 𝕄) = iprop(barPay false (bwd 0 c) ∗ barPay true (bwd 1 c)) := by
  rw [lent c false 0 rfl, lent c true 1 rfl]; exact by_parity _

/-- And the room ahead, as the two neighbours give it. -/
theorem room_eq : (room (F := F) c 0 : sProp 𝕄) = iprop(barPay false c ∗ barPay true c) := by
  unfold room barPay; rw [← Finset.range_eq_Ico]; exact by_parity _

/-- Both duties of the barrier's round. -/
theorem both (A : Bool → sProp 𝕄) : (bigSep Finset.univ A : sProp 𝕄) = iprop(A false ∗ A true) := by
  rw [show (Finset.univ : Finset Bool) = insert false {true} from by decide, bigSep_insert (by decide), bigSep_singleton]
  rfl

/-- What the wait brings: the room ahead. -/
theorem brought : (bigSep ((plan X W).duties (barCell c) 0 \ ∅) fun b => (plan X W).payload (barCell c) 0 b : sProp 𝕄) = room c 0 := by
  rw [Finset.sdiff_empty, duties_bar, both, payload_bar, payload_bar, room_eq]

/-- The neighbours the kernel signals. -/
theorem dev1_at : (⟨k0_dev1 c, k0_dev1_lt c⟩ : Dev nD) = bwd 0 c := Fin.ext (k0_dev1_eq c)
theorem dev2_at : (⟨k0_dev2 c, k0_dev2_lt c⟩ : Dev nD) = bwd 1 c :=
  Fin.ext ((k0_dev2_eq c).trans (by show (c.val + 1) % 4 = (c.val + 3 * 3) % 4; omega))

/-- The barrier: two signals and a wait for two. -/
theorem barrier {α : Type} {Q : α → sProp 𝕄} {h1 h2 : _} {k : PUnit → Prog (TpuEff nD τ sig (Elt F) Λ₀ .tc) α} :
    (iprop(know X W K ∗ gate c) : sProp 𝕄)
      ⊢ iprop((passed c -∗ run c (k ⟨⟩) Q)
        -∗ run c (semSignalWord (⟨k0_dev1 c, h1⟩ : Dev nD) barS 1#32 >>= fun _ =>
            semSignalWord (⟨k0_dev2 c, h2⟩ : Dev nD) barS 1#32 >>= fun _ => semWaitWord barS 2#32 >>= k) Q) := by
  simp only [semSignalWord, semWaitWord, Prog.lift, Prog.bind_op, Prog.bind_ret, dev1_at, dev2_at]
  unfold gate
  rw [lands_eq]
  iintro ⟨#HK, ⟨%Wt, HO⟩, ⟨Ht0, Ht1⟩, ⟨Hat, Hcr⟩, HL0, HL1⟩ Hk
  unfold owedAll
  iapply (Rounds.wp_signal 𝒱₀ ER (plan X W) (c : Thread nD τ) none (dst := (bwd 0 c : Thread nD τ)) (κ := K (bwd 0 c, none))
      (d := false) (by rw [duties_bar]; exact Finset.mem_univ _)
      ((show (plan X W).amount (barCell (bwd 0 c)) 0 false = 1 from rfl).trans (by decide)) () (owedBar c) rfl) $$ [HO Ht0 HL0]
  · isplitr; · iapply (know_inv X W K (bwd 0 c, none)); iexact HK
    isplitl [HO]; · iexact HO
    isplitl [Ht0]; · iexact Ht0
    isplitl [HL0]; · rw [payload_bar]; iexact HL0
    iapply (know_reached X W K (bwd 0 c, none)); iexact HK
  iintro HO
  unfold owedBar
  iapply (Rounds.wp_signal 𝒱₀ ER (plan X W) (c : Thread nD τ) none (dst := (bwd 1 c : Thread nD τ)) (κ := K (bwd 1 c, none))
      (d := true) (by rw [duties_bar]; exact Finset.mem_univ _)
      ((show (plan X W).amount (barCell (bwd 1 c)) 0 true = 1 from rfl).trans (by decide)) () (owed 0 c) rfl) $$ [HO Ht1 HL1]
  · isplitr; · iapply (know_inv X W K (bwd 1 c, none)); iexact HK
    isplitl [HO]; · iexact HO
    isplitl [Ht1]; · iexact Ht1
    isplitl [HL1]; · rw [payload_bar]; iexact HL1
    iapply (know_reached X W K (bwd 1 c, none)); iexact HK
  iintro HO
  iapply (Rounds.wp_wait_rest_token 𝒱₀ ER (plan X W) (c : Thread nD τ) none (κ := K (c, none))
      (wpE_semWait_eq 𝒱₀ (c : Thread nD τ) none Set.univ) (Set.mem_univ _) () (O := owed 0 c) (W := Wt) (R := 0) (m := 0) (T := ∅)
      (by rw [expect_bar]; decide)) $$ [Hcr HO Hat]
  · isplitr; · iapply (know_inv X W K (c, none)); iexact HK
    isplitl [Hcr]; · iexact Hcr
    isplitl [HO]; · iexact HO
    isplitr
    · iapply (mayWait_of c (.reg barS) 0 (by decide)); iapply (know_lev X W K); iexact HK
    iexact Hat
  iintro ⟨HO, Hat, -, Hpay⟩
  ihave Hpay := (Entails.of_eq (brought X W c)) $$ Hpay
  imod (Rounds.cell_close ER (plan X W) (Set.mem_univ (K (c, none))) (fun h => h) (R := 0 + 1) (duties_later X W _)) $$ [Hat] with Hz
  · isplitr; · iapply (know_inv X W K (c, none)); iexact HK
    iexact Hat
  iapply Hk
  unfold passed debt
  isplitl [HO]; · iexists _; iexact HO
  isplitl [Hpay]; · iexact Hpay
  iexact Hz

end Barrier

end Cert.Exchange
-- ==== Proof.PartsA.lean ====
/-
# The partial products and the first sends

The first parts of the kernel: a device passes the barrier, forms its sixteen partial products, its own chunk's first,
starts the four transfers of stage 0 as soon as they can be, and waits for the first landing.
-/
module

public import proofs.«01_k».proof.Proof.Barrier

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2048x512 .f32) (W : Dev nD → FVec F S512x2048 .f32)

section Parts
variable (K : Dev nD × Sm → ℕ) (c : Dev nD)

/-- A part of the kernel at the kernel's operands. -/
abbrev ops {β : Type 1} (f : (a0 : Memref sig .tc .vmem S2048x512 .f32) → a0.IsWhole → (a1 : Memref sig .tc .vmem S512x2048 .f32) → a1.IsWhole
    → (a2 : Memref sig .tc .vmem S2048x2048 .f32) → a2.IsWhole → (a3 : Memref sig .tc .vmem S2x6x128x2048 .f32) → a3.IsWhole
    → DmaSems sig S2x12 → DmaSems sig S2x12 → β) : β :=
  f xM (Memref.isWhole_whole _) wM (Memref.isWhole_whole _) oM (Memref.isWhole_whole _) lM (Memref.isWhole_whole _) cc0_scratch1 cc0_scratch2

/-- What the device holds, besides what the barrier needs, when the kernel begins. -/
def rest : sProp 𝕄 :=
  iprop(has c xM (X c) ∗ has c wM (W c) ∗ toks c 0 ∗ comes c 0 ∗ outs c 0 ∗ bigSep (Finset.range 16) fun i => loose (F := F) c (srcS c i))

/-- Everything it has then. -/
def Begin : sProp 𝕄 := iprop(know X W K ∗ gate c ∗ rest X W c)

/-- The output's slots hold anything at first. -/
theorem slots_begin : (bigSep (Finset.range 16) fun i => loose (F := F) c (srcS c i) : sProp 𝕄) ⊢ slots X W c 0 0 0 := by
  have e : (bigSep (Finset.Ico 0 28) (slotAt X W c 0 0) : sProp 𝕄)
      = iprop(bigSep (Finset.Ico 0 16) (slotAt X W c 0 0) ∗ bigSep (Finset.Ico 16 28) (slotAt X W c 0 0)) := by
    rw [← Finset.Ico_union_Ico_eq_Ico (show 0 ≤ 16 by decide) (show 16 ≤ 28 by decide)]
    exact bigSep_union (Finset.Ico_disjoint_Ico_consecutive 0 16 28)
  unfold slots
  rw [e, ← Finset.range_eq_Ico,
    bigSep_congr (s := Finset.range 16) (Φ := slotAt X W c 0 0) (Ψ := fun i => loose (F := F) c (srcS c i)) fun i hi => by
      have h := Finset.mem_range.mp hi
      rw [slotAt_fresh X W c 0 0 i (by omega) h]; exact if_neg (by omega),
    bigSep_congr (s := Finset.Ico 16 28) (Φ := slotAt X W c 0 0) (Ψ := fun _ => BIBase.emp) fun i hi => by
      have h := Finset.mem_Ico.mp hi
      exact slotAt_none X W c 0 0 i (by omega) (by omega)]
  iintro H
  isplitl [H]; · iexact H
  iapply (Entails.of_eq (bigSep_emp_const (Finset.Ico 16 28)).symm); iempintro

/-- After the barrier the device stands at the beginning of the counts. -/
theorem first_state : (iprop(passed c ∗ know X W K ∗ rest X W c) : sProp 𝕄) ⊢ iprop(St X W c K 0 0 0 0 0 ∗ semVal (barCell c) 0) := by
  unfold passed rest St
  iintro ⟨⟨HO, Hr, Hz⟩, HK, Hx, Hw, Ht, Hc, Ho, HS⟩
  isplitr [Hz]
  · isplitl [HK]; · iexact HK
    isplitl [HO]; · iexact HO
    isplitl [Hx]; · iexact Hx
    isplitl [Hw]; · iexact Hw
    isplitl [Ht]; · iexact Ht
    isplitl [Hr]; · iexact Hr
    isplitl [Hc]; · iexact Hc
    isplitr; · unfold came; rw [Finset.range_zero, bigSep_empty]; iempintro
    isplitr; · unfold used; rw [Finset.range_zero, bigSep_empty]; iempintro
    isplitl [Ho]; · iexact Ho
    isplitr; · unfold under; rw [Finset.Ico_self, bigSep_empty]; iempintro
    isplitr; · unfold went; rw [Finset.range_zero, bigSep_empty]; iempintro
    iapply (slots_begin X W c); iexact HS
  iexact Hz

omit [FloatOps F] in
theorem know_twice {A B C : sProp 𝕄} [BI.Persistent A] : iprop(A ∗ B ∗ C) ⊢ iprop((A ∗ B) ∗ A ∗ C) := by
  iintro ⟨#HA, HB, HC⟩
  isplitl [HB]
  · isplitr; · iexact HA
    iexact HB
  isplitr; · iexact HA
  iexact HC

theorem part1 : (Begin X W K c : sProp 𝕄)
    ⊢ run c (ops k0_part1) fun r => iprop(⌜r.1 = c⌝ ∗ St X W c K 1 0 0 0 0 ∗ semVal (barCell c) 0) := by
  simp only [ops, k0_part1_eq_skeleton]
  unfold k0_part1_skel
  simp only [Prog.lift, Prog.bind_op, Prog.bind_ret, Prog.pure_eq_ret, wp_deviceId]
  refine know_twice.trans (goWith (barrier X W K c) ((first_state X W K c).trans ?_))
  refine beside c (Q' := fun r => iprop(⌜r.1 = c⌝ ∗ St X W c K 1 0 0 0 0)) ?_ fun r => sep_assoc.1
  refine gemm X W K c 0 (off1_at c 0) (off2_at c 0) (off2_at c 0) (by decide) (by decide) (.inl (by decide)) rfl (fun _ _ => rfl) ?_
  refine stop c ?_
  iintro H
  isplitr; · ipureintro; rfl
  iexact H

theorem part2 (v2 v26 v27 : BitVec 32) :
    (St X W c K 1 0 0 0 0 : sProp 𝕄) ⊢ run c (ops k0_part2 c v2 v26 v27) fun _ => St X W c K 4 0 0 0 0 := by
  simp only [ops, k0_part2_eq_skeleton]
  unfold k0_part2_skel
  simp only [Prog.lift, Prog.bind_op, Prog.bind_ret, Prog.pure_eq_ret]
  refine gemm X W K c 2 (off1_at c 1) (off2_at c 1) (off2_at c 1) (by decide) (by decide) (.inl (by decide)) rfl (fun _ _ => rfl) ?_
  refine gemm X W K c 1 (off1_at c 2) (off2_at c 2) (off2_at c 2) (by decide) (by decide) (.inl (by decide)) rfl (fun _ _ => rfl) ?_
  refine gemm X W K c 3 (off1_at c 3) (off2_at c 3) (off2_at c 3) (by decide) (by decide) (.inl (by decide)) rfl (fun _ _ => rfl) ?_
  exact stop c .rfl

theorem part3 (v2 v5 v7 : BitVec 32) :
    (St X W c K 4 0 0 0 0 : sProp 𝕄) ⊢ run c (ops k0_part3 c v2 v5 v7) fun _ => St X W c K 4 1 0 0 0 := by
  simp only [ops, k0_part3_eq_skeleton]
  unfold k0_part3_skel
  simp only [Prog.lift, Prog.bind_op, Prog.bind_ret, Prog.pure_eq_ret]
  refine go (send_sum X W K c 0 (by decide) (by decide) (by decide) (by decide) (Fin.ext (k0_dev3_eq c)) (slice_at 0 c (off3_at c 0 0) _) rfl rfl rfl) ?_
  exact stop c .rfl

theorem part4 (v2 v7 : BitVec 32) :
    (St X W c K 4 1 0 0 0 : sProp 𝕄) ⊢ run c (ops k0_part4 c v2 v7) fun _ => St X W c K 4 3 0 0 0 := by
  simp only [ops, k0_part4_eq_skeleton]
  unfold k0_part4_skel
  simp only [Prog.lift, Prog.bind_op, Prog.bind_ret, Prog.pure_eq_ret]
  refine go (send_sum X W K c 1 (by decide) (by decide) (by decide) (by decide) (Fin.ext (k0_dev4_eq c)) (slice_at 1 c (off4_at c 0 0) _) rfl rfl rfl) ?_
  refine go (send_sum X W K c 2 (by decide) (by decide) (by decide) (by decide) (Fin.ext (k0_dev5_eq c)) (slice_at 2 c (off3_at c 0 1) _) rfl rfl rfl) ?_
  exact stop c .rfl

/-- It hands on the operands of the next product. -/
theorem part5 (v2 v5 : BitVec 32) :
    (St X W c K 4 3 0 0 0 : sProp 𝕄) ⊢ run c (ops k0_part5 c v2 v5) fun r => iprop(⌜r.2.1 = k0_pay6 (xrows X 14 (rot 14 (3 * (14 / 4)) c) c) ∧ r.2.2 = k0_pay7 (W c)⌝ ∗ St X W c K 5 4 0 0 0) := by
  simp only [ops, k0_part5_eq_skeleton]
  unfold k0_part5_skel
  simp only [Prog.lift, Prog.bind_op, Prog.bind_ret, Prog.pure_eq_ret]
  refine go (send_sum X W K c 3 (by decide) (by decide) (by decide) (by decide) (Fin.ext (k0_dev6_eq c)) (slice_at 3 c (off4_at c 0 1) _) rfl rfl rfl) ?_
  refine gemm X W K c 12 (off5_at c 0 0) (off6_at c 0 0) (off6_at c 0 0) (by decide) (by decide) (.inr (by decide)) rfl (fun _ _ => rfl) ?_
  refine go (load_x X W K c 14 _ (off5_at c 0 1)) ?_
  refine go (load_w X W K c) ?_
  refine stop c ?_
  iintro H
  isplitr; · ipureintro; exact ⟨rfl, rfl⟩
  iexact H

theorem part6 (v2 v140 : BitVec 32) (v144 : FVec F S128x512 .f32) (v146 : FVec F S512x2048 .f32) (h : v144 = k0_pay6 (xrows X 14 (rot 14 (3 * (14 / 4)) c) c) ∧ v146 = k0_pay7 (W c)) :
    (St X W c K 5 4 0 0 0 : sProp 𝕄) ⊢ run c (ops k0_part6 c v2 v140 v144 v146) fun _ => St X W c K 8 4 0 0 0 := by
  simp only [ops, k0_part6_eq_skeleton]
  unfold k0_part6_skel
  simp only [Prog.lift, Prog.bind_op, Prog.bind_ret, Prog.pure_eq_ret]
  rw [h.1, h.2]
  refine put_gemm X W K c 14 (off6_at c 0 1) (off6_at c 0 1) (by decide) (by decide) (.inr (by decide)) rfl rfl ?_
  refine gemm X W K c 5 (off5_at c 0 2) (off6_at c 0 2) (off6_at c 0 2) (by decide) (by decide) (.inr (by decide)) rfl (fun _ _ => rfl) ?_
  refine gemm X W K c 7 (off5_at c 0 3) (off6_at c 0 3) (off6_at c 0 3) (by decide) (by decide) (.inr (by decide)) rfl (fun _ _ => rfl) ?_
  exact stop c .rfl

theorem part7 (v2 : BitVec 32) :
    (St X W c K 8 4 0 0 0 : sProp 𝕄) ⊢ run c (ops k0_part7 c v2) fun _ => St X W c K 10 4 0 0 0 := by
  simp only [ops, k0_part7_eq_skeleton]
  unfold k0_part7_skel
  simp only [Prog.lift, Prog.bind_op, Prog.bind_ret, Prog.pure_eq_ret]
  refine gemm X W K c 8 (off5_at c 1 0) (off6_at c 1 0) (off6_at c 1 0) (by decide) (by decide) (.inr (by decide)) rfl (fun _ _ => rfl) ?_
  refine gemm X W K c 10 (off5_at c 1 1) (off6_at c 1 1) (off6_at c 1 1) (by decide) (by decide) (.inr (by decide)) rfl (fun _ _ => rfl) ?_
  exact stop c .rfl

/-- It hands on the rows of the next product. -/
theorem part8 (v2 v210 : BitVec 32) :
    (St X W c K 10 4 0 0 0 : sProp 𝕄) ⊢ run c (ops k0_part8 c v2 v210) fun r => iprop(⌜r.2 = k0_pay15 (xrows X 4 (rot 4 (3 * (4 / 4)) c) c)⌝ ∗ St X W c K 12 4 0 0 0) := by
  simp only [ops, k0_part8_eq_skeleton]
  unfold k0_part8_skel
  simp only [Prog.lift, Prog.bind_op, Prog.bind_ret, Prog.pure_eq_ret]
  refine gemm X W K c 9 (off5_at c 1 2) (off6_at c 1 2) (off6_at c 1 2) (by decide) (by decide) (.inr (by decide)) rfl (fun _ _ => rfl) ?_
  refine gemm X W K c 11 (off5_at c 1 3) (off6_at c 1 3) (off6_at c 1 3) (by decide) (by decide) (.inr (by decide)) rfl (fun _ _ => rfl) ?_
  refine go (load_x X W K c 4 _ (off5_at c 2 0)) ?_
  refine stop c ?_
  iintro H
  isplitr; · ipureintro; rfl
  iexact H

/-- It hands on the next product. -/
theorem part9 (v2 v238 : BitVec 32) (v242 : FVec F S128x512 .f32) (h : v242 = k0_pay15 (xrows X 4 (rot 4 (3 * (4 / 4)) c) c)) :
    (St X W c K 12 4 0 0 0 : sProp 𝕄) ⊢ run c (ops k0_part9 c v2 v238 v242) fun r => iprop(⌜r = prod X W 13 (rot 13 (3 * (13 / 4)) c) c⌝ ∗ St X W c K 14 4 0 0 0) := by
  simp only [ops, k0_part9_eq_skeleton]
  unfold k0_part9_skel
  simp only [Prog.lift, Prog.bind_op, Prog.bind_ret, Prog.pure_eq_ret]
  rw [h]
  refine go (load_w X W K c) ?_
  refine put_gemm X W K c 4 (off6_at c 2 0) (off6_at c 2 0) (by decide) (by decide) (.inr (by decide)) rfl rfl ?_
  refine gemm X W K c 6 (off5_at c 2 1) (off6_at c 2 1) (off6_at c 2 1) (by decide) (by decide) (.inr (by decide)) rfl (fun _ _ => rfl) ?_
  refine go (load_x X W K c 13 _ (off5_at c 2 2)) ?_
  refine go (load_w X W K c) ?_
  refine stop c ?_
  iintro H
  isplitr; · ipureintro; rfl
  iexact H

theorem part10 (v2 v7 : BitVec 32) (v273 : FVec F S128x2048 .f32) (h : v273 = prod X W 13 (rot 13 (3 * (13 / 4)) c) c) :
    (St X W c K 14 4 0 0 0 : sProp 𝕄) ⊢ run c (ops k0_part10 c v2 v7 v273) fun _ => iprop(St X W c K 16 4 1 0 0 ∗ landed X W 0 c) := by
  simp only [ops, k0_part10_eq_skeleton]
  unfold k0_part10_skel
  simp only [Prog.lift, Prog.bind_op, Prog.bind_ret, Prog.pure_eq_ret]
  refine put_gemm X W K c 13 (off6_at c 2 2) (off6_at c 2 2) (by decide) (by decide) (.inr (by decide)) rfl h ?_
  refine gemm X W K c 15 (off5_at c 2 3) (off6_at c 2 3) (off6_at c 2 3) (by decide) (by decide) (.inr (by decide)) rfl (fun _ _ => rfl) ?_
  refine go (wait_landing X W K c 0 (by decide) (by decide) (by rfl) (by rfl)) ?_
  exact stop c .rfl

end Parts

end Cert.Exchange
-- ==== Proof.PartsB.lean ====
/-
# The sums

Stages 0, 1 and 2: what lands is added to the device's own partial product and sent on, until after twelve landings
the device holds one fully summed chunk, and has started to spread it.
-/
module

public import proofs.«01_k».proof.Proof.PartsA

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2048x512 .f32) (W : Dev nD → FVec F S512x2048 .f32)

section Parts
variable (K : Dev nD × Sm → ℕ) (c : Dev nD)

theorem part11 (v2 v7 v303 c0 : BitVec 32) :
    (iprop(St X W c K 16 4 1 0 0 ∗ landed X W 0 c) : sProp 𝕄) ⊢ run c (ops k0_part11 c v2 v7 v303 c0) fun _ => St X W c K 16 5 1 1 0 := by
  simp only [ops, k0_part11_eq_skeleton]
  unfold k0_part11_skel
  simp only [Prog.lift, Prog.bind_op, Prog.bind_ret, Prog.pure_eq_ret]
  refine accumulate X W K c 0 (by decide) (off7_at c 0 0) rfl (off7_at c 0 0) (off7_at c 0 0) (by decide) (by decide) (fun _ _ => rfl) ?_
  refine go (send_sum X W K c 4 (by decide) (by decide) (by decide) (by decide) (Fin.ext (k0_dev7_eq c)) (slice_at 4 c (off3_at c 1 0) _) rfl rfl rfl) ?_
  exact stop c .rfl

theorem part12 (v2 v5 c1 : BitVec 32) :
    (St X W c K 16 5 1 1 0 : sProp 𝕄) ⊢ run c (ops k0_part12 c v2 v5 c1) fun _ => St X W c K 16 5 2 2 0 := by
  simp only [ops, k0_part12_eq_skeleton]
  unfold k0_part12_skel
  simp only [Prog.lift, Prog.bind_op, Prog.bind_ret, Prog.pure_eq_ret]
  refine go (wait_landing X W K c 1 (by decide) (by decide) (by rfl) (by rfl)) ?_
  refine accumulate X W K c 1 (by decide) (off8_at c 0 0) rfl (off8_at c 0 0) (off8_at c 0 0) (by decide) (by decide) (fun _ _ => rfl) ?_
  exact stop c .rfl

/-- It hands on the next sum. -/
theorem part13 (v2 v5 v7 c1 : BitVec 32) :
    (St X W c K 16 5 2 2 0 : sProp 𝕄) ⊢ run c (ops k0_part13 c v2 v5 v7 c1) fun r => iprop(⌜r.2 = val X W 6 c⌝ ∗ St X W c K 16 6 3 2 0 ∗ landed X W 2 c) := by
  simp only [ops, k0_part13_eq_skeleton]
  unfold k0_part13_skel
  simp only [Prog.lift, Prog.bind_op, Prog.bind_ret, Prog.pure_eq_ret]
  refine go (send_sum X W K c 5 (by decide) (by decide) (by decide) (by decide) (Fin.ext (k0_dev8_eq c)) (slice_at 5 c (off4_at c 1 0) _) rfl rfl rfl) ?_
  refine go (wait_landing X W K c 2 (by decide) (by decide) (by rfl) (by rfl)) ?_
  refine goWith (load_own X W K c 6 (off7_at c 0 1) (by decide) (by decide) (.inr (by decide)) (by decide)) ?_
  refine take_landed X W K c 2 (by decide) rfl fun v hv => ?_
  refine stop c ?_
  iintro H
  isplitr; · ipureintro; exact (hv _).trans (val_add X W 2 (by decide) c).symm
  iexact H

theorem part14 (v2 v5 v7 v381 : BitVec 32) (v387 : FVec F S128x2048 .f32) (h : v387 = val X W 6 c) :
    (iprop(St X W c K 16 6 3 2 0 ∗ landed X W 2 c) : sProp 𝕄) ⊢ run c (ops k0_part14 c v2 v5 v7 v381 v387) fun _ => iprop(St X W c K 16 7 4 3 0 ∗ landed X W 3 c) := by
  simp only [ops, k0_part14_eq_skeleton]
  unfold k0_part14_skel
  simp only [Prog.lift, Prog.bind_op, Prog.bind_ret, Prog.pure_eq_ret]
  refine put_sum X W K c 2 (by decide) (off7_at c 0 1) (off7_at c 0 1) (by decide) h ?_
  refine go (send_sum X W K c 6 (by decide) (by decide) (by decide) (by decide) (Fin.ext (k0_dev9_eq c)) (slice_at 6 c (off3_at c 1 1) _) rfl rfl rfl) ?_
  refine go (wait_landing X W K c 3 (by decide) (by decide) (by rfl) (by rfl)) ?_
  exact stop c .rfl

theorem part15 (v2 v5 v413 : BitVec 32) :
    (iprop(St X W c K 16 7 4 3 0 ∗ landed X W 3 c) : sProp 𝕄) ⊢ run c (ops k0_part15 c v2 v5 v413) fun _ => St X W c K 16 8 4 4 0 := by
  simp only [ops, k0_part15_eq_skeleton]
  unfold k0_part15_skel
  simp only [Prog.lift, Prog.bind_op, Prog.bind_ret, Prog.pure_eq_ret]
  refine accumulate X W K c 3 (by decide) (off8_at c 0 1) rfl (off8_at c 0 1) (off8_at c 0 1) (by decide) (by decide) (fun _ _ => rfl) ?_
  refine go (send_sum X W K c 7 (by decide) (by decide) (by decide) (by decide) (Fin.ext (k0_dev10_eq c)) (slice_at 7 c (off4_at c 1 1) _) rfl rfl rfl) ?_
  exact stop c .rfl

theorem part16 (v2 v7 : BitVec 32) :
    (St X W c K 16 8 4 4 0 : sProp 𝕄) ⊢ run c (ops k0_part16 c v2 v7) fun _ => St X W c K 16 8 5 5 0 := by
  simp only [ops, k0_part16_eq_skeleton]
  unfold k0_part16_skel
  simp only [Prog.lift, Prog.bind_op, Prog.bind_ret, Prog.pure_eq_ret]
  refine go (wait_landing X W K c 4 (by decide) (by decide) (by rfl) (by rfl)) ?_
  refine accumulate X W K c 4 (by decide) (off7_at c 1 0) rfl (off7_at c 1 0) (off7_at c 1 0) (by decide) (by decide) (fun _ _ => rfl) ?_
  exact stop c .rfl

theorem part17 (v2 v5 v7 v470 : BitVec 32) :
    (St X W c K 16 8 5 5 0 : sProp 𝕄) ⊢ run c (ops k0_part17 c v2 v5 v7 v470) fun _ => iprop(St X W c K 16 9 6 5 0 ∗ landed X W 5 c) := by
  simp only [ops, k0_part17_eq_skeleton]
  unfold k0_part17_skel
  simp only [Prog.lift, Prog.bind_op, Prog.bind_ret, Prog.pure_eq_ret]
  refine go (send_sum X W K c 8 (by decide) (by decide) (by decide) (by decide) (Fin.ext (k0_dev11_eq c)) (slice_at 8 c (off3_at c 2 0) _) rfl rfl rfl) ?_
  refine go (wait_landing X W K c 5 (by decide) (by decide) (by rfl) (by rfl)) ?_
  exact stop c .rfl

theorem part18 (v2 v5 v7 v495 : BitVec 32) :
    (iprop(St X W c K 16 9 6 5 0 ∗ landed X W 5 c) : sProp 𝕄) ⊢ run c (ops k0_part18 c v2 v5 v7 v495) fun _ => St X W c K 16 10 6 6 0 := by
  simp only [ops, k0_part18_eq_skeleton]
  unfold k0_part18_skel
  simp only [Prog.lift, Prog.bind_op, Prog.bind_ret, Prog.pure_eq_ret]
  refine accumulate X W K c 5 (by decide) (off8_at c 1 0) rfl (off8_at c 1 0) (off8_at c 1 0) (by decide) (by decide) (fun _ _ => rfl) ?_
  refine go (send_sum X W K c 9 (by decide) (by decide) (by decide) (by decide) (Fin.ext (k0_dev12_eq c)) (slice_at 9 c (off4_at c 2 0) _) rfl rfl rfl) ?_
  exact stop c .rfl

theorem part19 (v2 v7 : BitVec 32) :
    (St X W c K 16 10 6 6 0 : sProp 𝕄) ⊢ run c (ops k0_part19 c v2 v7) fun _ => St X W c K 16 10 7 7 0 := by
  simp only [ops, k0_part19_eq_skeleton]
  unfold k0_part19_skel
  simp only [Prog.lift, Prog.bind_op, Prog.bind_ret, Prog.pure_eq_ret]
  refine go (wait_landing X W K c 6 (by decide) (by decide) (by rfl) (by rfl)) ?_
  refine accumulate X W K c 6 (by decide) (off7_at c 1 1) rfl (off7_at c 1 1) (off7_at c 1 1) (by decide) (by decide) (fun _ _ => rfl) ?_
  exact stop c .rfl

theorem part20 (v2 v5 : BitVec 32) :
    (St X W c K 16 10 7 7 0 : sProp 𝕄) ⊢ run c (ops k0_part20 c v2 v5) fun _ => St X W c K 16 11 8 8 0 := by
  simp only [ops, k0_part20_eq_skeleton]
  unfold k0_part20_skel
  simp only [Prog.lift, Prog.bind_op, Prog.bind_ret, Prog.pure_eq_ret]
  refine go (send_sum X W K c 10 (by decide) (by decide) (by decide) (by decide) (Fin.ext (k0_dev13_eq c)) (slice_at 10 c (off3_at c 2 1) _) rfl rfl rfl) ?_
  refine go (wait_landing X W K c 7 (by decide) (by decide) (by rfl) (by rfl)) ?_
  refine accumulate X W K c 7 (by decide) (off8_at c 1 1) rfl (off8_at c 1 1) (off8_at c 1 1) (by decide) (by decide) (fun _ _ => rfl) ?_
  exact stop c .rfl

theorem part21 (v2 v5 v7 c2 : BitVec 32) :
    (St X W c K 16 11 8 8 0 : sProp 𝕄) ⊢ run c (ops k0_part21 c v2 v5 v7 c2) fun _ => iprop(St X W c K 16 12 9 8 0 ∗ landed X W 8 c) := by
  simp only [ops, k0_part21_eq_skeleton]
  unfold k0_part21_skel
  simp only [Prog.lift, Prog.bind_op, Prog.bind_ret, Prog.pure_eq_ret]
  refine go (send_sum X W K c 11 (by decide) (by decide) (by decide) (by decide) (Fin.ext (k0_dev14_eq c)) (slice_at 11 c (off4_at c 2 1) _) rfl rfl rfl) ?_
  refine go (wait_landing X W K c 8 (by decide) (by decide) (by rfl) (by rfl)) ?_
  exact stop c .rfl

theorem part22 (v2 v7 v605 c4 : BitVec 32) :
    (iprop(St X W c K 16 12 9 8 0 ∗ landed X W 8 c) : sProp 𝕄) ⊢ run c (ops k0_part22 c v2 v7 v605 c4) fun _ => St X W c K 16 13 9 9 0 := by
  simp only [ops, k0_part22_eq_skeleton]
  unfold k0_part22_skel
  simp only [Prog.lift, Prog.bind_op, Prog.bind_ret, Prog.pure_eq_ret]
  refine accumulate X W K c 8 (by decide) (off7_at c 2 0) rfl (off7_at c 2 0) (off7_at c 2 0) (by decide) (by decide) (fun _ _ => rfl) ?_
  refine go (send_done X W K c 12 (by decide) (by decide) (by decide) (by decide) (Fin.ext (k0_dev15_eq c)) (slice_at 12 c (off9_at c 0 0) _) (slice_at 12 c (off9_at c 0 0) _) rfl rfl) ?_
  exact stop c .rfl

theorem part23 (v2 v5 : BitVec 32) :
    (St X W c K 16 13 9 9 0 : sProp 𝕄) ⊢ run c (ops k0_part23 c v2 v5) fun _ => St X W c K 16 13 10 10 0 := by
  simp only [ops, k0_part23_eq_skeleton]
  unfold k0_part23_skel
  simp only [Prog.lift, Prog.bind_op, Prog.bind_ret, Prog.pure_eq_ret]
  refine go (wait_landing X W K c 9 (by decide) (by decide) (by rfl) (by rfl)) ?_
  refine accumulate X W K c 9 (by decide) (off8_at c 2 0) rfl (off8_at c 2 0) (off8_at c 2 0) (by decide) (by decide) (fun _ _ => rfl) ?_
  exact stop c .rfl

/-- It hands on the partial product. -/
theorem part24 (v2 v5 v7 v663 c128 : BitVec 32) :
    (St X W c K 16 13 10 10 0 : sProp 𝕄) ⊢ run c (ops k0_part24 c v2 v5 v7 v663 c128) fun r => iprop(⌜r.2 = k0_pay30 (prod X W 14 (rot 14 (3 * (14 / 4)) c) c)⌝ ∗ St X W c K 16 14 11 10 0 ∗ landed X W 10 c) := by
  simp only [ops, k0_part24_eq_skeleton]
  unfold k0_part24_skel
  simp only [Prog.lift, Prog.bind_op, Prog.bind_ret, Prog.pure_eq_ret]
  refine go (send_done X W K c 13 (by decide) (by decide) (by decide) (by decide) (Fin.ext (k0_dev16_eq c)) (slice_at 13 c (off10_at c 0 0) _) (slice_at 13 c (off10_at c 0 0) _) rfl rfl) ?_
  refine go (wait_landing X W K c 10 (by decide) (by decide) (by rfl) (by rfl)) ?_
  refine goWith (load_own X W K c 14 (off7_at c 2 1) (by decide) (by decide) (.inr (by decide)) (by decide)) ?_
  refine stop c ?_
  iintro H
  isplitr; · ipureintro; rfl
  iexact H

theorem part25 (v2 v5 v7 v688 : BitVec 32) (v691 : FVec F S128x2048 .f32) (h : v691 = k0_pay30 (prod X W 14 (rot 14 (3 * (14 / 4)) c) c)) :
    (iprop(St X W c K 16 14 11 10 0 ∗ landed X W 10 c) : sProp 𝕄) ⊢ run c (ops k0_part25 c v2 v5 v7 v688 v691) fun _ => St X W c K 16 15 11 11 0 := by
  simp only [ops, k0_part25_eq_skeleton]
  unfold k0_part25_skel
  simp only [Prog.lift, Prog.bind_op, Prog.bind_ret, Prog.pure_eq_ret]
  rw [h]
  refine take_landed X W K c 10 (by decide) rfl fun v hv => ?_
  refine put_sum X W K c 10 (by decide) (off7_at c 2 1) (off7_at c 2 1) (by decide) ((hv _).trans (val_add X W 10 (by decide) c).symm) ?_
  refine go (send_done X W K c 14 (by decide) (by decide) (by decide) (by decide) (Fin.ext (k0_dev17_eq c)) (slice_at 14 c (off9_at c 0 1) _) (slice_at 14 c (off9_at c 0 1) _) rfl rfl) ?_
  exact stop c .rfl

theorem part26 (v2 v5 : BitVec 32) :
    (St X W c K 16 15 11 11 0 : sProp 𝕄) ⊢ run c (ops k0_part26 c v2 v5) fun _ => St X W c K 16 15 12 12 0 := by
  simp only [ops, k0_part26_eq_skeleton]
  unfold k0_part26_skel
  simp only [Prog.lift, Prog.bind_op, Prog.bind_ret, Prog.pure_eq_ret]
  refine go (wait_landing X W K c 11 (by decide) (by decide) (by rfl) (by rfl)) ?_
  refine accumulate X W K c 11 (by decide) (off8_at c 2 1) rfl (off8_at c 2 1) (off8_at c 2 1) (by decide) (by decide) (fun _ _ => rfl) ?_
  exact stop c .rfl

end Parts

end Cert.Exchange
-- ==== Proof.PartsC.lean ====
/-
# Spreading the sums, and the end

Stages 3, 4 and 5: each landing is a finished slot of the output and is sent on. Then the device waits until all its
sends have left.
-/
module

public import proofs.«01_k».proof.Proof.PartsB

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2048x512 .f32) (W : Dev nD → FVec F S512x2048 .f32)

section Parts
variable (K : Dev nD × Sm → ℕ) (c : Dev nD)

theorem part27 (v2 v7 : BitVec 32) :
    (St X W c K 16 15 12 12 0 : sProp 𝕄) ⊢ run c (ops k0_part27 c v2 v7) fun _ => St X W c K 16 17 13 13 0 := by
  simp only [ops, k0_part27_eq_skeleton]
  unfold k0_part27_skel
  simp only [Prog.lift, Prog.bind_op, Prog.bind_ret, Prog.pure_eq_ret]
  refine go (send_done X W K c 15 (by decide) (by decide) (by decide) (by decide) (Fin.ext (k0_dev18_eq c)) (slice_at 15 c (off10_at c 0 1) _) (slice_at 15 c (off10_at c 0 1) _) rfl rfl) ?_
  refine go (wait_passing X W K c 12 (by decide) (by decide) (by decide) (by decide) (by rfl) (by rfl)) ?_
  refine go (send_done X W K c 16 (by decide) (by decide) (by decide) (by decide) (Fin.ext (k0_dev19_eq c)) (slice_at 16 c (off9_at c 1 0) _) (slice_at 16 c (off9_at c 1 0) _) rfl rfl) ?_
  exact stop c .rfl

theorem part28 (v2 v5 v7 : BitVec 32) :
    (St X W c K 16 17 13 13 0 : sProp 𝕄) ⊢ run c (ops k0_part28 c v2 v5 v7) fun _ => St X W c K 16 18 14 14 0 := by
  simp only [ops, k0_part28_eq_skeleton]
  unfold k0_part28_skel
  simp only [Prog.lift, Prog.bind_op, Prog.bind_ret, Prog.pure_eq_ret]
  refine go (wait_passing X W K c 13 (by decide) (by decide) (by decide) (by decide) (by rfl) (by rfl)) ?_
  refine go (send_done X W K c 17 (by decide) (by decide) (by decide) (by decide) (Fin.ext (k0_dev20_eq c)) (slice_at 17 c (off10_at c 1 0) _) (slice_at 17 c (off10_at c 1 0) _) rfl rfl) ?_
  exact stop c .rfl

theorem part29 (v2 v5 v7 : BitVec 32) :
    (St X W c K 16 18 14 14 0 : sProp 𝕄) ⊢ run c (ops k0_part29 c v2 v5 v7) fun _ => St X W c K 16 19 16 16 0 := by
  simp only [ops, k0_part29_eq_skeleton]
  unfold k0_part29_skel
  simp only [Prog.lift, Prog.bind_op, Prog.bind_ret, Prog.pure_eq_ret]
  refine go (wait_passing X W K c 14 (by decide) (by decide) (by decide) (by decide) (by rfl) (by rfl)) ?_
  refine go (send_done X W K c 18 (by decide) (by decide) (by decide) (by decide) (Fin.ext (k0_dev21_eq c)) (slice_at 18 c (off9_at c 1 1) _) (slice_at 18 c (off9_at c 1 1) _) rfl rfl) ?_
  refine go (wait_passing X W K c 15 (by decide) (by decide) (by decide) (by decide) (by rfl) (by rfl)) ?_
  exact stop c .rfl

theorem part30 (v2 v5 v7 v830 c4 : BitVec 32) :
    (St X W c K 16 19 16 16 0 : sProp 𝕄) ⊢ run c (ops k0_part30 c v2 v5 v7 v830 c4) fun _ => St X W c K 16 20 17 17 0 := by
  simp only [ops, k0_part30_eq_skeleton]
  unfold k0_part30_skel
  simp only [Prog.lift, Prog.bind_op, Prog.bind_ret, Prog.pure_eq_ret]
  refine go (send_done X W K c 19 (by decide) (by decide) (by decide) (by decide) (Fin.ext (k0_dev22_eq c)) (slice_at 19 c (off10_at c 1 1) _) (slice_at 19 c (off10_at c 1 1) _) rfl rfl) ?_
  refine go (wait_passing X W K c 16 (by decide) (by decide) (by decide) (by decide) (by rfl) (by rfl)) ?_
  exact stop c .rfl

theorem part31 (v2 v5 v7 v857 c128 : BitVec 32) :
    (St X W c K 16 20 17 17 0 : sProp 𝕄) ⊢ run c (ops k0_part31 c v2 v5 v7 v857 c128) fun _ => St X W c K 16 21 18 18 0 := by
  simp only [ops, k0_part31_eq_skeleton]
  unfold k0_part31_skel
  simp only [Prog.lift, Prog.bind_op, Prog.bind_ret, Prog.pure_eq_ret]
  refine go (send_done X W K c 20 (by decide) (by decide) (by decide) (by decide) (Fin.ext (k0_dev23_eq c)) (slice_at 20 c (off9_at c 2 0) _) (slice_at 20 c (off9_at c 2 0) _) rfl rfl) ?_
  refine go (wait_passing X W K c 17 (by decide) (by decide) (by decide) (by decide) (by rfl) (by rfl)) ?_
  exact stop c .rfl

theorem part32 (v2 v7 : BitVec 32) :
    (St X W c K 16 21 18 18 0 : sProp 𝕄) ⊢ run c (ops k0_part32 c v2 v7) fun _ => St X W c K 16 23 19 19 0 := by
  simp only [ops, k0_part32_eq_skeleton]
  unfold k0_part32_skel
  simp only [Prog.lift, Prog.bind_op, Prog.bind_ret, Prog.pure_eq_ret]
  refine go (send_done X W K c 21 (by decide) (by decide) (by decide) (by decide) (Fin.ext (k0_dev24_eq c)) (slice_at 21 c (off10_at c 2 0) _) (slice_at 21 c (off10_at c 2 0) _) rfl rfl) ?_
  refine go (wait_passing X W K c 18 (by decide) (by decide) (by decide) (by decide) (by rfl) (by rfl)) ?_
  refine go (send_done X W K c 22 (by decide) (by decide) (by decide) (by decide) (Fin.ext (k0_dev25_eq c)) (slice_at 22 c (off9_at c 2 1) _) (slice_at 22 c (off9_at c 2 1) _) rfl rfl) ?_
  exact stop c .rfl

theorem part33 (v2 v5 v7 : BitVec 32) :
    (St X W c K 16 23 19 19 0 : sProp 𝕄) ⊢ run c (ops k0_part33 c v2 v5 v7) fun _ => St X W c K 16 24 20 20 0 := by
  simp only [ops, k0_part33_eq_skeleton]
  unfold k0_part33_skel
  simp only [Prog.lift, Prog.bind_op, Prog.bind_ret, Prog.pure_eq_ret]
  refine go (wait_passing X W K c 19 (by decide) (by decide) (by decide) (by decide) (by rfl) (by rfl)) ?_
  refine go (send_done X W K c 23 (by decide) (by decide) (by decide) (by decide) (Fin.ext (k0_dev26_eq c)) (slice_at 23 c (off10_at c 2 1) _) (slice_at 23 c (off10_at c 2 1) _) rfl rfl) ?_
  exact stop c .rfl

theorem part34 (v5 v7 : BitVec 32) :
    (St X W c K 16 24 20 20 0 : sProp 𝕄) ⊢ run c (ops k0_part34 c v5 v7) fun _ => St X W c K 16 24 24 24 0 := by
  simp only [ops, k0_part34_eq_skeleton]
  unfold k0_part34_skel
  simp only [Prog.lift, Prog.bind_op, Prog.bind_ret, Prog.pure_eq_ret]
  refine go (wait_passing X W K c 20 (by decide) (by decide) (by decide) (by decide) (by rfl) (by rfl)) ?_
  refine go (wait_passing X W K c 21 (by decide) (by decide) (by decide) (by decide) (by rfl) (by rfl)) ?_
  refine go (wait_passing X W K c 22 (by decide) (by decide) (by decide) (by decide) (by rfl) (by rfl)) ?_
  refine go (wait_passing X W K c 23 (by decide) (by decide) (by decide) (by decide) (by rfl) (by rfl)) ?_
  exact stop c .rfl

theorem part35  :
    (St X W c K 16 24 24 24 0 : sProp 𝕄) ⊢ run c (ops k0_part35 c) fun _ => St X W c K 16 24 24 24 4 := by
  simp only [ops, k0_part35_eq_skeleton]
  unfold k0_part35_skel
  simp only [Prog.lift, Prog.bind_op, Prog.bind_ret, Prog.pure_eq_ret]
  refine go (wait_sent X W K c 0 (by decide) (by rfl) (by rfl)) ?_
  refine go (wait_sent X W K c 1 (by decide) (by rfl) (by rfl)) ?_
  refine go (wait_sent X W K c 2 (by decide) (by rfl) (by rfl)) ?_
  refine go (wait_sent X W K c 3 (by decide) (by rfl) (by rfl)) ?_
  exact stop c .rfl

theorem part36  :
    (St X W c K 16 24 24 24 4 : sProp 𝕄) ⊢ run c (ops k0_part36 c) fun _ => St X W c K 16 24 24 24 8 := by
  simp only [ops, k0_part36_eq_skeleton]
  unfold k0_part36_skel
  simp only [Prog.lift, Prog.bind_op, Prog.bind_ret, Prog.pure_eq_ret]
  refine go (wait_sent X W K c 4 (by decide) (by rfl) (by rfl)) ?_
  refine go (wait_sent X W K c 5 (by decide) (by rfl) (by rfl)) ?_
  refine go (wait_sent X W K c 6 (by decide) (by rfl) (by rfl)) ?_
  refine go (wait_sent X W K c 7 (by decide) (by rfl) (by rfl)) ?_
  exact stop c .rfl

theorem part37  :
    (St X W c K 16 24 24 24 8 : sProp 𝕄) ⊢ run c (ops k0_part37 c) fun _ => St X W c K 16 24 24 24 12 := by
  simp only [ops, k0_part37_eq_skeleton]
  unfold k0_part37_skel
  simp only [Prog.lift, Prog.bind_op, Prog.bind_ret, Prog.pure_eq_ret]
  refine go (wait_sent X W K c 8 (by decide) (by rfl) (by rfl)) ?_
  refine go (wait_sent X W K c 9 (by decide) (by rfl) (by rfl)) ?_
  refine go (wait_sent X W K c 10 (by decide) (by rfl) (by rfl)) ?_
  refine go (wait_sent X W K c 11 (by decide) (by rfl) (by rfl)) ?_
  exact stop c .rfl

theorem part38  :
    (St X W c K 16 24 24 24 12 : sProp 𝕄) ⊢ run c (ops k0_part38 c) fun _ => St X W c K 16 24 24 24 17 := by
  simp only [ops, k0_part38_eq_skeleton]
  unfold k0_part38_skel
  simp only [Prog.lift, Prog.bind_op, Prog.bind_ret, Prog.pure_eq_ret]
  refine go (wait_sent X W K c 12 (by decide) (by rfl) (by rfl)) ?_
  refine go (wait_sent X W K c 13 (by decide) (by rfl) (by rfl)) ?_
  refine go (wait_sent X W K c 14 (by decide) (by rfl) (by rfl)) ?_
  refine go (wait_sent X W K c 15 (by decide) (by rfl) (by rfl)) ?_
  refine go (wait_sent X W K c 16 (by decide) (by rfl) (by rfl)) ?_
  exact stop c .rfl

theorem part39  :
    (St X W c K 16 24 24 24 17 : sProp 𝕄) ⊢ run c (ops k0_part39 c) fun _ => St X W c K 16 24 24 24 22 := by
  simp only [ops, k0_part39_eq_skeleton]
  unfold k0_part39_skel
  simp only [Prog.lift, Prog.bind_op, Prog.bind_ret, Prog.pure_eq_ret]
  refine go (wait_sent X W K c 17 (by decide) (by rfl) (by rfl)) ?_
  refine go (wait_sent X W K c 18 (by decide) (by rfl) (by rfl)) ?_
  refine go (wait_sent X W K c 19 (by decide) (by rfl) (by rfl)) ?_
  refine go (wait_sent X W K c 20 (by decide) (by rfl) (by rfl)) ?_
  refine go (wait_sent X W K c 21 (by decide) (by rfl) (by rfl)) ?_
  exact stop c .rfl

/-- All parts, one after the other. -/
theorem part40 : (Begin X W K c : sProp 𝕄)
    ⊢ run c (ops k0_part40) fun r => iprop(⌜r = c⌝ ∗ St X W c K 16 24 24 24 23 ∗ semVal (barCell c) 0) := by
  simp only [ops, k0_part40_eq_skeleton]
  unfold k0_part40_skel
  refine chain c (part1 X W K c) ?_
  rintro ⟨d0, v2, v5, v7, v26, v27⟩ hd
  obtain rfl : d0 = c := hd
  refine beside d0 (Q' := fun r => iprop(⌜r = d0⌝ ∗ St X W d0 K 16 24 24 24 23)) ?_ fun r => sep_assoc.1
  refine chain' d0 (part2 X W K d0 v2 v26 v27) fun _ => ?_
  refine chain' d0 (part3 X W K d0 v2 v5 v7) fun _ => ?_
  refine chain' d0 (part4 X W K d0 v2 v7) fun _ => ?_
  refine chain d0 (part5 X W K d0 v2 v5) ?_
  rintro ⟨v140, v144, v146⟩ h
  refine chain' d0 (part6 X W K d0 v2 v140 v144 v146 h) fun _ => ?_
  refine chain' d0 (part7 X W K d0 v2) fun v210 => ?_
  refine chain d0 (part8 X W K d0 v2 v210) ?_
  rintro ⟨v238, v242⟩ h
  refine chain d0 (part9 X W K d0 v2 v238 v242 h) fun v273 h => ?_
  refine chain' d0 (part10 X W K d0 v2 v7 v273 h) ?_
  rintro ⟨v303, c0⟩
  refine chain' d0 (part11 X W K d0 v2 v7 v303 c0) fun c1 => ?_
  refine chain' d0 (part12 X W K d0 v2 v5 c1) fun c1 => ?_
  refine chain d0 (part13 X W K d0 v2 v5 v7 c1) ?_
  rintro ⟨v381, v387⟩ h
  refine chain' d0 (part14 X W K d0 v2 v5 v7 v381 v387 h) fun v413 => ?_
  refine chain' d0 (part15 X W K d0 v2 v5 v413) fun _ => ?_
  refine chain' d0 (part16 X W K d0 v2 v7) fun v470 => ?_
  refine chain' d0 (part17 X W K d0 v2 v5 v7 v470) fun v495 => ?_
  refine chain' d0 (part18 X W K d0 v2 v5 v7 v495) fun _ => ?_
  refine chain' d0 (part19 X W K d0 v2 v7) fun _ => ?_
  refine chain' d0 (part20 X W K d0 v2 v5) fun c2 => ?_
  refine chain' d0 (part21 X W K d0 v2 v5 v7 c2) ?_
  rintro ⟨v605, c4⟩
  refine chain' d0 (part22 X W K d0 v2 v7 v605 c4) fun _ => ?_
  refine chain' d0 (part23 X W K d0 v2 v5) ?_
  rintro ⟨v663, c128⟩
  refine chain d0 (part24 X W K d0 v2 v5 v7 v663 c128) ?_
  rintro ⟨v688, v691⟩ h
  refine chain' d0 (part25 X W K d0 v2 v5 v7 v688 v691 h) fun _ => ?_
  refine chain' d0 (part26 X W K d0 v2 v5) fun _ => ?_
  refine chain' d0 (part27 X W K d0 v2 v7) fun _ => ?_
  refine chain' d0 (part28 X W K d0 v2 v5 v7) fun _ => ?_
  refine chain' d0 (part29 X W K d0 v2 v5 v7) ?_
  rintro ⟨v830, c4⟩
  refine chain' d0 (part30 X W K d0 v2 v5 v7 v830 c4) ?_
  rintro ⟨v857, c128⟩
  refine chain' d0 (part31 X W K d0 v2 v5 v7 v857 c128) fun _ => ?_
  refine chain' d0 (part32 X W K d0 v2 v7) fun _ => ?_
  refine chain' d0 (part33 X W K d0 v2 v5 v7) fun _ => ?_
  refine chain' d0 (part34 X W K d0 v5 v7) fun _ => ?_
  refine chain' d0 (part35 X W K d0) fun _ => ?_
  refine chain' d0 (part36 X W K d0) fun _ => ?_
  refine chain' d0 (part37 X W K d0) fun _ => ?_
  refine chain' d0 (part38 X W K d0) fun _ => ?_
  refine chain' d0 (part39 X W K d0) fun _ => ?_
  simp only [Prog.lift, Prog.bind_op, Prog.bind_ret, Prog.pure_eq_ret]
  refine go (wait_sent X W K d0 22 (by decide) (by rfl) (by rfl)) ?_
  refine stop d0 ?_
  iintro H
  isplitr; · ipureintro; rfl
  iexact H

/-- The kernel's body, from what a device has at the beginning to the state with every count at its end. -/
theorem body : (Begin X W K c : sProp 𝕄)
    ⊢ run c (ops cc0_body) fun _ => iprop(St X W c K 16 24 24 24 24 ∗ semVal (barCell c) 0) := by
  simp only [ops, cc0_body_eq_skeleton]
  unfold cc0_body_skel
  refine chain c (part40 X W K c) ?_
  rintro d0 hd
  obtain rfl : d0 = c := hd
  simp only [Prog.lift, Prog.bind_op, Prog.bind_ret, Prog.pure_eq_ret]
  refine goWith (wait_sent X W K d0 23 (by decide) (by rfl) (by rfl)) ?_
  exact stop d0 .rfl

end Parts

end Cert.Exchange
-- ==== Proof.Whole.lean ====
/-
# The whole buffers

The output is its sixteen slots, the landing buffer its twelve: they are taken apart before the kernel, and put
together after it.
-/
module

public import proofs.«01_k».proof.Proof.PartsC
public import Idealize.ShloMosaic.Lib.Pipeline.ValueKit

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2048x512 .f32) (W : Dev nD → FVec F S512x2048 .f32)

section Rects
variable {s : Shape} {n : ℕ} (d : Dev nD) (m : Memref sig .tc .vmem s .f32) (r : Fin n → Rect s) (hr : ∀ t a, (r t).stride a = 1)
  (hd : ∀ t t', t ≠ t' → Disjoint (r t).set (r t').set)
  (hcov : (Finset.univ : Finset (Fin n)).biUnion (fun t => (r t).set) = Finset.univ)
include hd hcov

/-- A buffer that holds anything is pieces that hold anything. -/
theorem loose_split : (loose (F := F) d m : sProp 𝕄) ⊢ bigSep Finset.univ fun t => loose d (m.slice (r t) (hr t)) := by
  unfold loose
  iintro ⟨%Y, H⟩
  ihave H := (owns_rects (d : Thread nD τ) m fullShare r hr hd hcov Y) $$ H
  iapply (show (bigSep Finset.univ fun t => owns (d : Thread nD τ) (m.slice (r t) (hr t)) fullShare fun j => Y ((r t).emb j) : sProp 𝕄)
    ⊢ bigSep Finset.univ fun t => loose d (m.slice (r t) (hr t)) from bigSep_mono fun t _ => loose_intro d _ _)
  iexact H

/-- The pieces, whatever each holds, make up the buffer. -/
theorem loose_join : (bigSep Finset.univ fun t => loose (F := F) d (m.slice (r t) (hr t)) : sProp 𝕄) ⊢ loose d m := by
  unfold loose
  have hne : ∀ t : Fin n, Nonempty ((r t).shape.Idx → Elt F .f32) := fun _ => ⟨fun _ => (Elt.nonempty F .f32).some⟩
  iintro H
  ihave H := (BI.bigSep_exists_pi Finset.univ (fun t (Y : (r t).shape.Idx → Elt F .f32) => (has d (m.slice (r t) (hr t)) Y : sProp 𝕄))) $$ H
  icases H with ⟨%Y, H⟩
  let Z : s.Idx → Elt F .f32 := fun x =>
    if h : ∃ p : (t : Fin n) × (r t).shape.Idx, (r p.1).emb p.2 = x then Y h.choose.1 h.choose.2 else (Elt.nonempty F .f32).some
  have hZ (t : Fin n) (j : (r t).shape.Idx) : Z ((r t).emb j) = Y t j := by
    have h : ∃ p : (t : Fin n) × (r t).shape.Idx, (r p.1).emb p.2 = (r t).emb j := ⟨⟨t, j⟩, rfl⟩
    have e : Z ((r t).emb j) = Y h.choose.1 h.choose.2 := dif_pos h
    rw [e]
    have hs := h.choose_spec
    generalize h.choose = p at hs ⊢
    obtain ⟨t', j'⟩ := p
    obtain rfl : t' = t := by
      by_contra hne
      have h1 : (r t').emb j' ∈ (r t').set := by rw [← Rect.map_emb_univ]; exact Finset.mem_map_of_mem _ (Finset.mem_univ j')
      have h2 : (r t).emb j ∈ (r t).set := by rw [← Rect.map_emb_univ]; exact Finset.mem_map_of_mem _ (Finset.mem_univ j)
      exact Finset.disjoint_left.mp (hd t' t hne) h1 (hs ▸ h2)
    rw [(r t').emb.injective hs]
  iexists Z
  iapply (owns_of_rects (d : Thread nD τ) m fullShare r hr hd hcov Z)
  iapply (show (bigSep Finset.univ fun t => has d (m.slice (r t) (hr t)) (Y t) : sProp 𝕄)
    ⊢ bigSep Finset.univ fun t => owns (d : Thread nD τ) (m.slice (r t) (hr t)) fullShare fun j => Z ((r t).emb j) from
      bigSep_mono fun t _ => Entails.of_eq (congrArg (has d (m.slice (r t) (hr t))) (funext fun j => (hZ t j).symm)))
  iexact H

end Rects

omit [FloatOps F] in
/-- Numbers below `n`, as a type or as a range. -/
theorem bigSep_fin {n : ℕ} (A : ℕ → sProp 𝕄) : (bigSep Finset.univ fun t : Fin n => A t.val : sProp 𝕄) = bigSep (Finset.range n) A := by
  rw [show Finset.range n = (Finset.univ : Finset (Fin n)).map Fin.valEmbedding by
    ext j; simp only [Finset.mem_range, Finset.mem_map, Finset.mem_univ, true_and, Fin.valEmbedding_apply]
    exact ⟨fun h => ⟨⟨j, h⟩, rfl⟩, fun ⟨t, h⟩ => h ▸ t.isLt⟩, bigSep_map]
  rfl

omit [FloatOps F] in
/-- A range that begins later. -/
theorem bigSep_shift (b n : ℕ) (A : ℕ → sProp 𝕄) :
    (bigSep (Finset.Ico b (b + n)) A : sProp 𝕄) = bigSep (Finset.range n) fun i => A (b + i) := by
  rw [show Finset.Ico b (b + n) = (Finset.range n).map (addLeftEmbedding b) by
    ext j
    simp only [Finset.mem_Ico, Finset.mem_map, Finset.mem_range, addLeftEmbedding_apply]
    exact ⟨fun h => ⟨j - b, by omega, by omega⟩, fun ⟨t, h, e⟩ => by omega⟩, bigSep_map]
  rfl

/-! ## The landing buffer -/

theorem landing_disjoint (t t' : Fin 12) (h : t ≠ t') : Disjoint (lR t.val).set (lR t'.val).set := by
  by_cases h0 : t.val % 2 = t'.val % 2
  · have h1 : t.val / 2 % 6 ≠ t'.val / 2 % 6 := fun e => h (Fin.ext (by omega))
    exact Rect.unit_disjoint (1 : Fin 4) (by
      show t.val / 2 % 6 + 1 ≤ t'.val / 2 % 6 ∨ t'.val / 2 % 6 + 1 ≤ t.val / 2 % 6; omega)
  · exact Rect.unit_disjoint (0 : Fin 4) (by
      show t.val % 2 + 1 ≤ t'.val % 2 ∨ t'.val % 2 + 1 ≤ t.val % 2; omega)

theorem landing_cover : (Finset.univ : Finset (Fin 12)).biUnion (fun t => (lR t.val).set) = Finset.univ := by
  refine Finset.eq_univ_of_forall fun x => ?_
  have h0 : (x 0).val < 2 := (x 0).isLt
  have h1 : (x 1).val < 6 := (x 1).isLt
  refine Finset.mem_biUnion.mpr ⟨⟨2 * (x 1).val + (x 0).val, by omega⟩, Finset.mem_univ _, Rect.mem_set_unit.mpr fun a => ?_⟩
  fin_cases a
  · show (2 * (x 1).val + (x 0).val) % 2 ≤ (x 0).val ∧ (x 0).val < (2 * (x 1).val + (x 0).val) % 2 + 1; omega
  · show (2 * (x 1).val + (x 0).val) / 2 % 6 ≤ (x 1).val ∧ (x 1).val < (2 * (x 1).val + (x 0).val) / 2 % 6 + 1; omega
  · exact ⟨Nat.zero_le _, by have := (x 2).isLt; show (x 2).val < 0 + 128; exact (Nat.zero_add 128).symm ▸ this⟩
  · exact ⟨Nat.zero_le _, by have := (x 3).isLt; show (x 3).val < 0 + 2048; exact (Nat.zero_add 2048).symm ▸ this⟩

section Landing
variable (c : Dev nD)

/-- A landing slot, with or without its axes of size one. -/
theorem landing_slot (i : ℕ) : (loose (F := F) c (lS i) : sProp 𝕄) = loose c (lS4 i) := by
  have e : ((lS i).view.set : Finset _) = (lS4 i).view.set := View.set_reshape _ _
  have h1 : (loose (F := F) c (lS i) : sProp 𝕄) ⊢ loose c (lS4 i) := by
    unfold loose has ownsTc owns
    rw [e]
    iintro ⟨%Y, %f, %hf, H⟩
    iexists _; iexists f; isplitr; · ipureintro; rfl
    iexact H
  have h2 : (loose (F := F) c (lS4 i) : sProp 𝕄) ⊢ loose c (lS i) := by
    unfold loose has ownsTc owns
    rw [e]
    iintro ⟨%Y, %f, %hf, H⟩
    iexists _; iexists f; isplitr; · ipureintro; rfl
    iexact H
  exact BI.equiv_iff.mp ⟨h1, h2⟩

theorem landing_pieces :
    (bigSep Finset.univ fun t : Fin 12 => loose (F := F) c (lS4 t.val) : sProp 𝕄) = lands c := by
  unfold lands
  rw [← bigSep_fin]
  exact bigSep_congr fun t _ => (landing_slot c t.val).symm

theorem landing_split : (loose (F := F) c lM : sProp 𝕄) ⊢ lands c :=
  (loose_split c lM (fun t : Fin 12 => lR t.val) (fun _ _ => rfl) landing_disjoint landing_cover).trans (Entails.of_eq (landing_pieces c))

theorem landing_join : (lands c : sProp 𝕄) ⊢ loose (F := F) c lM :=
  (Entails.of_eq (landing_pieces c).symm).trans (loose_join c lM (fun t : Fin 12 => lR t.val) (fun _ _ => rfl) landing_disjoint landing_cover)

/-- After the kernel the landing slots are all there. -/
theorem used_lands : (used (F := F) c 24 : sProp 𝕄) ⊢ lands c := by
  have e : (used (F := F) c 24 : sProp 𝕄) = iprop(lands c ∗ bigSep (Finset.Ico 12 24) fun i => if i < 12 then loose (F := F) c (lS i) else iprop(emp)) := by
    unfold used lands
    rw [Finset.range_eq_Ico, ← Finset.Ico_union_Ico_eq_Ico (show 0 ≤ 12 by decide) (show 12 ≤ 24 by decide),
      bigSep_union (Finset.Ico_disjoint_Ico_consecutive 0 12 24),
      bigSep_congr (s := Finset.Ico 0 12) (Ψ := fun i => loose (F := F) c (lS i)) fun i hi => if_pos (Finset.mem_Ico.mp hi).2,
      Finset.range_eq_Ico]
    rfl
  rw [e]; iintro ⟨H, -⟩; iexact H

end Landing

/-! ## The output -/

section Output
variable (c : Dev nD)

/-- The rows of the slots of sixteen consecutive transfers, from the `b`-th on. -/
abbrev outR (b : ℕ) (t : Fin 16) : Rect S2048x2048 := oR (b + t.val) (rot (b + t.val) (3 * ((b + t.val) / 4)) c)

/-- Where the rows of the slot of transfer `i` begin, in units of 128 rows. -/
def rowOf (i : ℕ) (r : Dev nD) : ℕ := 4 * r.val + 2 * (i % 2) + i / 2 % 2

theorem offs_row (i : ℕ) (r : Dev nD) : offs i r 0 = 128 * rowOf i r := by
  show 512 * r.val + 256 * (i % 2) + 128 * (i / 2 % 2) = 128 * (4 * r.val + 2 * (i % 2) + i / 2 % 2); omega

/-- Sixteen consecutive transfers have all the slots. -/
theorem rows_inj : ∀ b ∈ [0, 12], ∀ (c : Dev nD) (t t' : Fin 16), t ≠ t' →
    rowOf (b + t.val) (rot (b + t.val) (3 * ((b + t.val) / 4)) c) ≠ rowOf (b + t'.val) (rot (b + t'.val) (3 * ((b + t'.val) / 4)) c) := by
  decide +kernel
theorem rows_all : ∀ b ∈ [0, 12], ∀ (c : Dev nD) (a : Fin 16),
    ∃ t : Fin 16, rowOf (b + t.val) (rot (b + t.val) (3 * ((b + t.val) / 4)) c) = a.val := by
  decide +kernel

theorem out_disjoint (b : ℕ) (hb : b ∈ [0, 12]) (t t' : Fin 16) (h : t ≠ t') : Disjoint (outR c b t).set (outR c b t').set := by
  have h' := rows_inj b hb c t t' h
  refine Rect.unit_disjoint (0 : Fin 2) ?_
  rw [offs_row, offs_row]
  show _ + 128 ≤ _ ∨ _ + 128 ≤ _
  omega

theorem out_cover (b : ℕ) (hb : b ∈ [0, 12]) : (Finset.univ : Finset (Fin 16)).biUnion (fun t => (outR c b t).set) = Finset.univ := by
  refine Finset.eq_univ_of_forall fun x => ?_
  have h0 : (x 0).val < 2048 := (x 0).isLt
  obtain ⟨t, ht⟩ := rows_all b hb c ⟨(x 0).val / 128, by omega⟩
  refine Finset.mem_biUnion.mpr ⟨t, Finset.mem_univ _, Rect.mem_set_unit.mpr fun a => ?_⟩
  fin_cases a
  · have e := offs_row (b + t.val) (rot (b + t.val) (3 * ((b + t.val) / 4)) c)
    rw [ht] at e
    show offs _ _ 0 ≤ (x 0).val ∧ (x 0).val < offs _ _ 0 + 128
    rw [e]; dsimp only; omega
  · exact ⟨Nat.zero_le _, by have := (x 1).isLt; show (x 1).val < 0 + 2048; exact (Nat.zero_add 2048).symm ▸ this⟩

/-- Before the kernel the output is taken apart. -/
theorem out_split : (loose (F := F) c oM : sProp 𝕄) ⊢ bigSep (Finset.range 16) fun i => loose c (srcS c i) := by
  refine (loose_split c oM (outR c 0) (fun _ _ => rfl) (out_disjoint c 0 (by decide)) (out_cover c 0 (by decide))).trans (Entails.of_eq ?_)
  rw [← bigSep_fin]
  exact bigSep_congr fun t _ => by dsimp only [outR]; rw [Nat.zero_add]

/-- The sum of class `i` on chunk `r`, as the device that finished it has it. -/
def done (i : ℕ) (r : Dev nD) : FVec F S128x2048 .f32 := vals X W i 3 (rot i 3 r)

/-- All of them: the output. -/
def total : FVec F S2048x2048 .f32 := fun x =>
  done X W ((x 0).val / 256 % 2 + 2 * ((x 0).val / 128 % 2)) ⟨(x 0).val / 512, by have : (x 0).val < 2048 := (x 0).isLt; show _ < 4; omega⟩
    (Fin.cons (⟨(x 0).val % 128, Nat.mod_lt _ (by decide)⟩ : Fin 128) (Fin.cons (⟨(x 1).val, (x 1).isLt⟩ : Fin 2048) finZeroElim))

theorem vals_mod (i k : ℕ) (d : Dev nD) : vals X W i k d = vals X W (i % 4) k d := by
  have h : ∀ q, vals X W (i % 4 + 4 * q) k d = vals X W (i % 4) k d := fun q => by
    induction q with
    | zero => rfl
    | succ q ih => rw [show i % 4 + 4 * (q + 1) = i % 4 + 4 * q + 4 by omega, vals_class, ih]
  rw [← h (i / 4), Nat.mod_add_div]

/-- From the third stage on a value is only passed on. -/
theorem vals_on (i k : ℕ) (d : Dev nD) : vals X W i (3 + k) d = vals X W i 3 (rot i (3 * k) d) := by
  induction k generalizing d with
  | zero => rw [Nat.mul_zero, rot_zero]
  | succ k ih =>
    have e : vals X W i (3 + (k + 1)) d = vals X W i (3 + k) (bwd i d) := if_neg (by show ¬ 3 + k < 3; omega)
    rw [e, ih, bwd, rot_rot]
    rfl

/-- What is sent in transfers 12 to 23, and what comes in the last four, is finished sums. -/
theorem val_done (i : ℕ) (h : 12 ≤ i) (d : Dev nD) : val X W i d = done X W i (rot i (3 * (i / 4)) d) := by
  obtain ⟨k, hk⟩ : ∃ k, i / 4 = 3 + k := ⟨i / 4 - 3, by omega⟩
  unfold val done
  rw [hk, vals_on, rot_rot, rot_congr i (show (3 + 3 * (3 + k)) % 4 = (3 * k) % 4 by omega)]

/-- The row arithmetic of a slot. -/
theorem slot_rows (i r j : ℕ) (hj : j < 128) :
    (512 * r + 256 * (i % 2) + 128 * (i / 2 % 2) + j) / 256 % 2 = i % 2
      ∧ (512 * r + 256 * (i % 2) + 128 * (i / 2 % 2) + j) / 128 % 2 = i / 2 % 2
      ∧ (512 * r + 256 * (i % 2) + 128 * (i / 2 % 2) + j) / 512 = r
      ∧ (512 * r + 256 * (i % 2) + 128 * (i / 2 % 2) + j) % 128 = j := by
  have ha : i % 2 < 2 := Nat.mod_lt _ (by decide)
  have hb : i / 2 % 2 < 2 := Nat.mod_lt _ (by decide)
  generalize i % 2 = a at *
  generalize i / 2 % 2 = b at *
  refine ⟨by omega, by omega, by omega, by omega⟩

theorem total_slot (i : ℕ) (r : Dev nD) (j : (oR i r).shape.Idx) : total X W ((oR i r).emb j) = done X W i r j := by
  have e0 : ((oR i r).emb j 0).val = 512 * r.val + 256 * (i % 2) + 128 * (i / 2 % 2) + (j 0).val := ValueKit.rect_emb_unit_val _ _ _ _ _
  have e1 : ((oR i r).emb j 1).val = 0 + (j 1).val := ValueKit.rect_emb_unit_val _ _ _ _ _
  have h0 : (j 0).val < 128 := (j 0).isLt
  have hr : r.val < 4 := r.isLt
  unfold total done
  rw [vals_mod X W i]
  have ec : ((oR i r).emb j 0).val / 256 % 2 + 2 * (((oR i r).emb j 0).val / 128 % 2) = i % 4 := by
    rw [e0, (slot_rows i r.val (j 0).val h0).1, (slot_rows i r.val (j 0).val h0).2.1]; omega
  have er : ((oR i r).emb j 0).val / 512 = r.val := by
    rw [e0]; exact (slot_rows i r.val (j 0).val h0).2.2.1
  rw [show rot i 3 r = rot (i % 4) 3 r from by apply Fin.ext; unfold rot; dsimp only; rw [show i % 4 % 2 = i % 2 by omega]]
  congr 1
  · rw [ec, show (⟨((oR i r).emb j 0).val / 512, er ▸ r.isLt⟩ : Dev nD) = r from Fin.ext er]
  · funext a
    fin_cases a
    · apply Fin.ext
      show ((oR i r).emb j 0).val % 128 = (j 0).val
      rw [e0]; exact (slot_rows i r.val (j 0).val h0).2.2.2
    · apply Fin.ext
      show ((oR i r).emb j 1).val = (j 1).val
      rw [e1, Nat.zero_add]

/-- The last sixteen values, each in its slot, are the output. -/
theorem out_join : (bigSep (Finset.Ico 12 28) fun i => has c (srcS c i) (val X W i c) : sProp 𝕄) ⊢ has c oM (total X W) := by
  rw [bigSep_shift 12 16, ← bigSep_fin]
  have h := owns_of_rects (Val := Elt F) (c : Thread nD τ) oM fullShare (Name := ℕ) (U := UU) (Lvl := ℕ) (Ix := Unit) (outR c 12) (fun _ _ => rfl)
    (out_disjoint c 12 (by decide)) (out_cover c 12 (by decide)) (total X W)
  refine (Entails.of_eq (bigSep_congr fun t _ => ?_)).trans h
  have e : val X W (12 + t.val) c = fun j => total X W ((outR c 12 t).emb j) := funext fun j => by
    rw [val_done X W (12 + t.val) (by omega)]
    exact (total_slot X W _ _ j).symm
  exact congrArg (has c (srcS c (12 + t.val))) e

end Output

end Cert.Exchange
-- ==== Proof.Ghost.lean ====
/-
# Setting up the semaphores

Before the kernels start, every semaphore gets its schedule. What comes of that is dealt out: to each device the
places of its own semaphores, and the tokens of the signals and transfers that it will make itself, most of which
belong to a neighbour's semaphore. The credits of what the neighbours owe a device are its own from the start.
-/
module

public import proofs.«01_k».proof.Proof.Whole

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2048x512 .f32) (W : Dev nD → FVec F S512x2048 .f32)

/-! ## The semaphores by name -/

/-- The semaphore with a name. -/
def semOf : Sm → SemLoc sig
  | none => .reg barS
  | some (false, i) => .dma (sendS i.val)
  | some (true, i) => .dma (recvS i.val)

/-- The transfers' semaphores: the kernel's own. -/
abbrev ownSem (p : Bool × Fin 24) : SemLoc sig := semOf (some p)

theorem cellAt_eq (c : Dev nD) (k : Sm) : cellAt (c, k) = ((c : Thread nD τ), semOf k) := by
  rcases k with _ | ⟨_ | _, i⟩ <;> rfl

theorem ownSem_injective : Function.Injective ownSem := by
  rintro ⟨b, i⟩ ⟨b', i'⟩ h
  have hi := numOf_pos i.val i.isLt
  have hi' := numOf_pos i'.val i'.isLt
  have h1 : 12 * (i.val % 2) + i.val / 2 % 12 < 24 := by omega
  have h2 : 12 * (i'.val % 2) + i'.val / 2 % 12 < 24 := by omega
  have hv (q q' : DmaSem sig) (e : (.dma q : SemLoc sig) = .dma q') : q.val = q'.val := by cases e; rfl
  rcases b with _ | _ <;> rcases b' with _ | _ <;> have e := hv _ _ h <;> simp only [sendS, recvS] at e
  · rw [Nat.add_left_cancel e] at hi; exact congrArg _ (Fin.ext (hi.symm.trans hi'))
  · omega
  · omega
  · rw [Nat.add_left_cancel e] at hi; exact congrArg _ (Fin.ext (hi.symm.trans hi'))

theorem semOf_injective : Function.Injective semOf := by
  have hne (p : Bool × Fin 24) : ownSem p ≠ .reg barS := by
    rcases p with ⟨_ | _, i⟩ <;> exact fun h => by cases h
  rintro (_ | p) (_ | p') h
  · rfl
  · exact absurd h.symm (hne p')
  · exact absurd h (hne p)
  · exact congrArg _ (ownSem_injective h)

theorem cellAt_injective : Function.Injective cellAt := by
  rintro ⟨c, k⟩ ⟨c', k'⟩ h
  rw [cellAt_eq, cellAt_eq] at h
  have h1 : c = c' := congrArg (fun g : GSem nD τ sig => g.1.1) h
  have h2 : k = k' := semOf_injective (congrArg (fun g : GSem nD τ sig => g.2) h)
  rw [h1, h2]

/-- Something for no name, and for each of the others. -/
theorem over_option {J : Type} [Fintype J] [DecidableEq J] (A : Option J → sProp 𝕄) :
    (bigSep Finset.univ A : sProp 𝕄) = iprop(A none ∗ bigSep Finset.univ fun j => A (some j)) := by
  rw [show (Finset.univ : Finset (Option J)) = insert none (Finset.univ.map Function.Embedding.some) by
      ext x; rcases x with _ | x <;> simp,
    bigSep_insert (by simp), bigSep_map]
  rfl

/-- Something for each transfer semaphore: the sends', the landings'. -/
theorem over_own (A : Bool × Fin 24 → sProp 𝕄) (S R : ℕ → sProp 𝕄) (hS : ∀ i : Fin 24, A (false, i) = S i.val)
    (hR : ∀ i : Fin 24, A (true, i) = R i.val) :
    (bigSep Finset.univ A : sProp 𝕄) = iprop(bigSep (Finset.range 24) S ∗ bigSep (Finset.range 24) R) := by
  rw [bigSep_univ_prod, both, ← bigSep_fin S, ← bigSep_fin R, bigSep_congr fun i _ => hS i, bigSep_congr fun i _ => hR i]

/-- Something for each cell of a device. -/
theorem over_cells (c : Dev nD) (B : GSem nD τ sig → sProp 𝕄) :
    (bigSep Finset.univ fun k : Sm => B (cellAt (c, k)) : sProp 𝕄)
      = iprop(B (barCell c) ∗ (bigSep (Finset.range 24) fun i => B (sendCell i c)) ∗ bigSep (Finset.range 24) fun i => B (recvCell i c)) := by
  rw [over_option, over_own _ (fun i => B (sendCell i c)) (fun i => B (recvCell i c)) (fun _ => rfl) (fun _ => rfl)]
  rfl

/-! ## The launch's ghost state -/

def allCells : Finset (GSem nD τ sig) := Finset.univ.map ⟨cellAt, cellAt_injective⟩

/-- The duties: one of each cell, and the barrier's second. -/
def dutyAt : Dev nD × Option Sm → GSem nD τ sig × ℕ × Bool
  | (c, none) => (barCell c, 0, true)
  | (c, some k) => (cellAt (c, k), 0, false)

theorem dutyAt_injective : Function.Injective dutyAt := by
  rintro ⟨c, _ | k⟩ ⟨c', _ | k'⟩ h
  · have : c = c' := congrArg (fun x : GSem nD τ sig × ℕ × Bool => x.1.1.1) h
    rw [this]
  · exact absurd (congrArg (fun x : GSem nD τ sig × ℕ × Bool => x.2.2) h) (fun h' => by cases h')
  · exact absurd (congrArg (fun x : GSem nD τ sig × ℕ × Bool => x.2.2) h) (fun h' => by cases h')
  · have := cellAt_injective (congrArg (fun x : GSem nD τ sig × ℕ × Bool => x.1) h)
    cases this; rfl

def allDuties : Finset (GSem nD τ sig × ℕ × Bool) := Finset.univ.map ⟨dutyAt, dutyAt_injective⟩

def u₀ : UU := (initOf (Pipeline.cells cfgs cellOf_inj) (Pipeline.launchToks cfgs cellOf_inj), initOf allCells allDuties)

/-- The tokens of a device's own semaphores. -/
def minted (c : Dev nD) : sProp 𝕄 :=
  iprop(dutyTok ER (barCell c) 0 true ∗ dutyTok ER (barCell c) 0 false
    ∗ (bigSep (Finset.range 24) fun i => dutyTok ER (sendCell i c) 0 false)
    ∗ bigSep (Finset.range 24) fun i => dutyTok ER (recvCell i c) 0 false)

/-- What a device gets at first: its semaphores' state, places and tokens. -/
def G (c : Dev nD) : sProp 𝕄 :=
  iprop((bigSep Finset.univ fun k : Sm => roundState ER (plan X W) (cellAt (c, k)) 0)
    ∗ (bigSep Finset.univ fun k : Sm => atPos ER (cellAt (c, k)) 0 ∅ 0)
    ∗ (bigSep Finset.univ fun k : Sm => reached ER (cellAt (c, k)) 0) ∗ minted c)

theorem fund_all : BI.own (ER (initOf allCells allDuties)) ⊢ (|==> bigSep Finset.univ (G X W) : sProp 𝕄) := by
  have hC (B : GSem nD τ sig → sProp 𝕄) :
      bigSep allCells B = bigSep Finset.univ fun c : Dev nD => bigSep Finset.univ fun k : Sm => B (cellAt (c, k)) := by
    unfold allCells; rw [bigSep_map, bigSep_univ_prod]; rfl
  have hT : bigSep allDuties (fun x => (dutyTok ER x.1 x.2.1 x.2.2 : sProp 𝕄)) = bigSep Finset.univ fun c : Dev nD => minted c := by
    unfold allDuties; rw [bigSep_map, bigSep_univ_prod]
    refine bigSep_congr fun c _ => ?_
    rw [over_option]
    unfold minted
    rw [← over_cells c fun g => (dutyTok ER g 0 false : sProp 𝕄)]
    rfl
  iintro H
  imod (Rounds.fund ER (plan X W) allCells allDuties) $$ H with ⟨Hst, Hr, Hat, Htok⟩
  imodintro
  ihave Hst := (Entails.of_eq (hC fun g => roundState ER (plan X W) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-! ## Opening the invariants -/

/-- The kernel's own semaphores are the transfers'. -/
theorem own_eq (c : Dev nD) :
    (Pipeline.ownSems0 (Ix := Unit) (Name := ℕ) (U := UU) (Lvl := ℕ) (Val := Elt F) (τ := τ) ownSem c : sProp 𝕄)
      = iprop((bigSep (Finset.range 24) fun i => semVal (sendCell i c) 0) ∗ bigSep (Finset.range 24) fun i => semVal (recvCell i c) 0) := by
  unfold Pipeline.ownSems0
  exact over_own _ (fun i => semVal (sendCell i c) 0) (fun i => semVal (recvCell i c) 0) (fun _ => rfl) (fun _ => rfl)

/-- The barrier semaphore is the one that is not the kernel's own. -/
theorem unscoped_eq (c : Dev nD) : (unscopedSems0 c : sProp 𝕄) = semVal (barCell c) 0 := by
  unfold unscopedSems0; rw [bigSep_eq_bigSepL_of_eq [SemLoc.reg barS] (by decide) (by decide)]; rfl

theorem all_sems (c : Dev nD) :
    iprop(Pipeline.ownSems0 (Ix := Unit) (Name := ℕ) (U := UU) (Lvl := ℕ) (Val := Elt F) (τ := τ) ownSem c ∗ unscopedSems0 c)
      ⊢ (bigSep Finset.univ fun k : Sm => semVal (cellAt (c, k)) 0 : sProp 𝕄) := by
  rw [own_eq, unscoped_eq, over_cells c fun g => (semVal g 0 : sProp 𝕄)]
  iintro ⟨H, HB⟩
  isplitl [HB] <;> iassumption

/-- A device's invariants, from its semaphores at zero. -/
theorem alloc_one (c : Dev nD) :
    iprop(Pipeline.ownSems0 (Ix := Unit) (Name := ℕ) (U := UU) (Lvl := ℕ) (Val := Elt F) (τ := τ) ownSem c ∗ unscopedSems0 c ∗ G X W c)
      ⊢ |={Set.univ}=> iprop((bigSep Finset.univ fun k : Sm => iprop(∃ κ : ℕ, cellInv ER (plan X W) κ (cellAt (c, k))))
          ∗ (bigSep Finset.univ fun k : Sm => atPos ER (cellAt (c, k)) 0 ∅ 0)
          ∗ (bigSep Finset.univ fun k : Sm => reached ER (cellAt (c, k)) 0) ∗ minted c) := by
  have h : iprop((bigSep Finset.univ fun k : Sm => semVal (cellAt (c, k)) 0) ∗ bigSep Finset.univ fun k : Sm => roundState ER (plan X W) (cellAt (c, k)) 0)
      ⊢ (|={Set.univ}=> bigSep Finset.univ fun k : Sm => iprop(∃ κ : ℕ, cellInv ER (plan X W) κ (cellAt (c, k))) : sProp 𝕄) := by
    rw [← bigSep_sep']
    exact (bigSep_mono fun k _ => (Rounds.body_intro ER (plan X W) (cellAt (c, k))).trans inv_alloc).trans (bigSep_fupd _ _)
  unfold G
  iintro ⟨Hos, Hus, Hst, Hrest⟩
  ihave Hv := (all_sems (F := F) c) $$ [Hos Hus]
  · isplitl [Hos] <;> iassumption
  imod h $$ [Hv Hst] with Hinv
  · isplitl [Hv] <;> iassumption
  imodintro
  isplitl [Hinv] <;> iassumption

/-! ## Dealing out -/

/-- The invariants of all cells, and that all have reached their first round. -/
def cells (K : Dev nD × Sm → ℕ) : sProp 𝕄 :=
  iprop((bigSep Finset.univ fun p => cellInv ER (plan X W) (K p) (cellAt p)) ∗ bigSep Finset.univ fun p => reached ER (cellAt p) 0)

instance cells_persistent (K : Dev nD × Sm → ℕ) : BI.Persistent (cells X W K) := by unfold cells; infer_instance

/-- The tokens of what a device does itself, -/
def duties (c : Dev nD) : sProp 𝕄 :=
  iprop((dutyTok ER (barCell (bwd 0 c)) 0 false ∗ dutyTok ER (barCell (bwd 1 c)) 0 true) ∗ toks c 0)

/-- and the places of its semaphores. -/
def places (c : Dev nD) : sProp 𝕄 :=
  iprop(atPos ER (barCell c) 0 ∅ 0 ∗ outs c 0 ∗ bigSep (Finset.range 24) fun i => atPos ER (recvCell i c) 0 ∅ 0)

/-- What a device has of the set-up. -/
def G' (c : Dev nD) : sProp 𝕄 := iprop(∃ K, cells X W K ∗ places c ∗ duties c)

/-- The receive tokens go to those who send. -/
theorem recv_around : (bigSep Finset.univ fun c : Dev nD => bigSep (Finset.range 24) fun i => dutyTok ER (recvCell i c) 0 false : sProp 𝕄)
    = bigSep Finset.univ fun c : Dev nD => bigSep (Finset.range 24) fun i => dutyTok ER (recvCell i (fwd i c)) 0 false := by
  have e (A : ℕ → Dev nD → sProp 𝕄) : (bigSep Finset.univ fun c : Dev nD => bigSep (Finset.range 24) fun i => A i c : sProp 𝕄)
      = bigSep Finset.univ fun i : Fin 24 => bigSep Finset.univ fun c : Dev nD => A i.val c := by
    rw [bigSep_univ_comm]
    exact bigSep_congr fun c _ => (bigSep_fin fun i => A i c).symm
  rw [e fun i c => dutyTok ER (recvCell i c) 0 false, e fun i c => dutyTok ER (recvCell i (fwd i c)) 0 false]
  exact bigSep_congr fun i _ => bigSep_univ_equiv (step i.val) fun c => (dutyTok ER (recvCell i.val c) 0 false : sProp 𝕄)

/-- The tokens go to those who signal or send. -/
theorem around : (bigSep Finset.univ fun c : Dev nD => (minted c : sProp 𝕄)) ⊢ bigSep Finset.univ fun c : Dev nD => duties c := by
  unfold minted duties toks
  rw [← Finset.range_eq_Ico]
  simp only [bigSep_sep']
  rw [recv_around, bigSep_univ_equiv (step 0).symm (fun c : Dev nD => (dutyTok ER (barCell c) 0 false : sProp 𝕄)),
    bigSep_univ_equiv (step 1).symm (fun c : Dev nD => (dutyTok ER (barCell c) 0 true : sProp 𝕄))]
  iintro ⟨H1, H0, HS, HR⟩
  isplitl [H0 H1]
  · isplitl [H0]; · iexact H0
    iexact H1
  isplitl [HS]; · iexact HS
  iexact HR

/-- What all may use and each has: to each its own with what all may use. -/
theorem each_with {R : sProp 𝕄} [BI.Persistent R] {A B : Dev nD → sProp 𝕄} (h : ∀ c, iprop(R ∗ A c) ⊢ B c) :
    iprop(R ∗ bigSep Finset.univ A) ⊢ bigSep Finset.univ B :=
  (sep_mono_left (BI.bigSep_of_persistent Finset.univ R)).trans (by rw [← bigSep_sep']; exact bigSep_mono fun c _ => h c)

theorem deal :
    (bigSep Finset.univ fun c : Dev nD => iprop((bigSep Finset.univ fun k : Sm => iprop(∃ κ : ℕ, cellInv ER (plan X W) κ (cellAt (c, k))))
          ∗ (bigSep Finset.univ fun k : Sm => atPos ER (cellAt (c, k)) 0 ∅ 0)
          ∗ (bigSep Finset.univ fun k : Sm => reached ER (cellAt (c, k)) 0) ∗ minted c) : sProp 𝕄)
      ⊢ bigSep Finset.univ (G' X W) := by
  have hP (c : Dev nD) : (bigSep Finset.univ fun k : Sm => atPos ER (cellAt (c, k)) 0 ∅ 0 : sProp 𝕄) = places c := by
    unfold places outs; rw [over_cells c fun g => (atPos ER g 0 ∅ 0 : sProp 𝕄), ← Finset.range_eq_Ico]
  rw [bigSep_sep', bigSep_sep', bigSep_sep',
    ← bigSep_univ_prod (fun p : Dev nD × Sm => iprop(∃ κ : ℕ, cellInv ER (plan X W) κ (cellAt p))),
    ← bigSep_univ_prod (fun p : Dev nD × Sm => (reached ER (cellAt p) 0 : sProp 𝕄)), bigSep_congr fun c _ => hP c]
  iintro ⟨HI, Hat, #HR, Htok⟩
  ihave HK := (BI.bigSep_exists_pi Finset.univ (fun (p : Dev nD × Sm) (κ : ℕ) => (cellInv ER (plan X W) κ (cellAt p) : sProp 𝕄))) $$ HI
  icases HK with ⟨%K, #HI⟩
  ihave Htk := (around (F := F)) $$ Htok
  iapply (each_with (R := cells X W K) (A := fun c => iprop(places c ∗ duties c)) fun c => by
    unfold G'; iintro H; iexists K; iexact H)
  isplitr
  · unfold cells; isplitl; · iexact HI
    iexact HR
  · iapply (Entails.of_eq (bigSep_sep' Finset.univ (fun c : Dev nD => (places c : sProp 𝕄)) duties).symm)
    isplitl [Hat] <;> iassumption

/-- The set-up, from all semaphores at zero. -/
theorem glob : (bigSep Finset.univ fun c => iprop(Pipeline.ownSems0 (Ix := Unit) (Name := ℕ) (U := UU) (Lvl := ℕ) (Val := Elt F) (τ := τ) ownSem c ∗ unscopedSems0 c ∗ G X W c) : sProp 𝕄)
    ⊢ |={Set.univ}=> bigSep Finset.univ (G' X W) :=
  ((bigSep_mono fun c _ => alloc_one X W c).trans (bigSep_fupd _ _)).trans (BI.fupd_mono (deal X W))

/-! ## The credits of what is owed at the start -/

theorem bar_ne_recv (c d : Dev nD) (i : ℕ) : barCell c ≠ recvCell i d := fun h => by
  have := congrArg (fun g : GSem nD τ sig => g.2) h; cases this

theorem bar_inj {c d : Dev nD} (h : barCell c = barCell d) : c = d := congrArg (fun g : GSem nD τ sig => g.1.1) h

theorem owed_bar (d c : Dev nD) : owedAll d (barCell c) () = (if d = fwd 1 c then 1 else 0) + if d = fwd 0 c then 1 else 0 := by
  have h0 : owed 0 d (barCell c) () = 0 := by
    rcases Nat.eq_zero_or_pos (owed 0 d (barCell c) ()) with h | h
    · exact h
    · obtain ⟨i, -, -, hi⟩ := owed_pos h; exact absurd hi (bar_ne_recv _ _ _)
  have hb (i : ℕ) : tallyAt (barCell (bwd i d)) () 1 (barCell c) () = if d = fwd i c then 1 else 0 := by
    rw [tallyAt_apply]
    refine if_congr ⟨fun h => ?_, fun h => ?_⟩ rfl rfl
    · rw [bar_inj h.1, fwd_bwd]
    · rw [h, bwd_fwd]; exact ⟨rfl, rfl⟩
  unfold owedAll owedBar
  rw [Pi.add_apply, Finsupp.add_apply, Pi.add_apply, Finsupp.add_apply, h0, hb, hb, Nat.zero_add]

theorem owed_recv (i : ℕ) (hi : i < 24) (d c : Dev nD) : owedAll d (recvCell i c) () = if d = bwd i c then N else 0 := by
  unfold owedAll owedBar
  rw [Pi.add_apply, Finsupp.add_apply, Pi.add_apply, Finsupp.add_apply,
    tallyAt_ne_cell (fun h => bar_ne_recv _ _ _ h.symm), tallyAt_ne_cell (fun h => bar_ne_recv _ _ _ h.symm),
    Finsupp.zero_apply, Nat.add_zero, Nat.add_zero]
  unfold owed
  rw [Finset.sum_apply, Finsupp.finsetSum_apply,
    Finset.sum_congr rfl fun j hj => show tallyAt (recvCell j (fwd j d)) () N (recvCell i c) () = if j = i then (if d = bwd i c then N else 0) else 0 by
      rw [tallyAt_apply]
      by_cases hji : j = i
      · subst hji
        rw [if_pos rfl]
        refine if_congr ⟨fun h => ?_, fun h => ?_⟩ rfl rfl
        · have : c = fwd j d := congrArg (fun g : GSem nD τ sig => g.1.1) h.1
          rw [this, bwd_fwd]
        · rw [h, fwd_bwd]; exact ⟨rfl, rfl⟩
      · rw [if_neg hji, if_neg fun h => hji ?_]
        have h1 := congrArg (fun g : GSem nD τ sig => g.2) h.1
        exact (recvS_inj hi (Finset.mem_Ico.mp hj).2 (by injection h1)).symm,
    Finset.sum_ite_eq' (Finset.Ico 0 24) i fun _ => if d = bwd i c then N else 0, if_pos (Finset.mem_Ico.mpr ⟨Nat.zero_le _, hi⟩)]

theorem launch_bar (c : Dev nD) :
    tallyOn (barCell c) (launchCredit (Pipeline.owing owedAll) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (fwd 1 c) fun _ => 1, Finset.sum_ite_eq' Finset.univ (fwd 0 c) fun _ => 1,
    if_pos (Finset.mem_univ _), if_pos (Finset.mem_univ _)]

theorem launch_recv (i : ℕ) (hi : i < 24) (c : Dev nD) :
    tallyOn (recvCell i c) (launchCredit (Pipeline.owing owedAll) 0 (recvCell i c)) = (tallyAt (recvCell i c) () N : CellTallies nD τ sig Unit) := by
  unfold tallyAt; refine congrArg _ (Finsupp.ext fun u => ?_); cases u
  rw [Pipeline.launchCredit_owing, Finsupp.single_eq_same, Finset.sum_congr rfl fun d _ => owed_recv i hi d c,
    Finset.sum_ite_eq' Finset.univ (bwd i c) fun _ => N, if_pos (Finset.mem_univ _)]

/-- What a device has been promised. -/
def promised (c : Dev nD) : sProp 𝕄 :=
  iprop(cred (tallyAt (barCell c) () 2) ∗ bigSep (Finset.range 24) fun i => cred (tallyAt (recvCell i c) () N))

theorem creds (c : Dev nD) : (Pipeline.launchCred owedAll c : sProp 𝕄) ⊢ promised c := by
  have hs (B : SemLoc sig → sProp 𝕄) : (bigSep Finset.univ B : sProp 𝕄) ⊢ bigSep Finset.univ fun k : Sm => B (semOf k) := by
    exact (bigSep_subset (Finset.subset_univ (Finset.univ.map ⟨semOf, semOf_injective⟩))).trans (Entails.of_eq (bigSep_map _))
  have hk := over_cells c fun g => (cred (tallyOn g (launchCredit (Pipeline.owing owedAll) 0 g)) : sProp 𝕄)
  unfold Pipeline.launchCred
  refine (hs _).trans ((Entails.of_eq (bigSep_congr fun k _ => by rw [← cellAt_eq])).trans ((Entails.of_eq hk).trans ?_))
  unfold promised
  rw [launch_bar, bigSep_congr (s := Finset.range 24) fun i hi => congrArg _ (launch_recv i (Finset.mem_range.mp hi) c)]
  iintro ⟨HB, -, HR⟩
  isplitl [HB] <;> iassumption

end Cert.Exchange
-- ==== Proof.Finish.lean ====
/-
# The kernel on one device

From what a device starts with to what the kernel leaves: the output buffer with the whole result, the operands as
they were, every semaphore at zero and nothing owed.
-/
module

public import proofs.«01_k».proof.Proof.Ghost

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## After the last step -/

section Finish
variable (X : Dev nD → FVec F S2048x512 .f32) (W : Dev nD → FVec F S512x2048 .f32) (c : Dev nD)

/-- The landing buffer, whatever it holds. -/
def scratch : sProp 𝕄 := iprop(∃ f : Buf (Elt F) ((c : Thread nD τ).loc cc0_scratch0), ((c : Thread nD τ).loc cc0_scratch0) ↦{fullShare} f)

theorem scratch_loose : (scratch (F := F) c : sProp 𝕄) ⊢ loose c lM := by
  unfold scratch loose
  iintro ⟨%f, H⟩
  iexists f
  iapply (Entails.of_eq (owns_whole (c : Thread nD τ) cc0_scratch0 fullShare f).symm)
  iexact H

theorem loose_scratch : (loose (F := F) c lM : sProp 𝕄) ⊢ scratch c := by
  unfold scratch loose
  iintro ⟨%f, H⟩
  iexists f
  iapply (Entails.of_eq (owns_whole (c : Thread nD τ) cc0_scratch0 fullShare f))
  iexact H

theorem ready_has (i : ℕ) : (ready X W c i : sProp 𝕄) ⊢ has c (srcS c i) (val X W i c) := by
  unfold ready; iintro ⟨H, -⟩; iexact H

/-- When everything has been waited for, the output is complete: some slots have come back from a send, the last ones
    have come in. -/
theorem output : (iprop((bigSep (Finset.range 24) fun i => back X W i c) ∗ slots X W c 16 24 24) : sProp 𝕄) ⊢ has c oM (total X W) := by
  have h1 : (bigSep (Finset.range 24) fun i => back X W i c : sProp 𝕄) ⊢ bigSep (Finset.Ico 12 24) fun i => has c (srcS c i) (val X W i c) := by
    refine (bigSep_subset (t := Finset.Ico 12 24) fun i hi => Finset.mem_range.mpr (Finset.mem_Ico.mp hi).2).trans ?_
    refine bigSep_mono fun i hi => ?_
    unfold back
    rw [if_neg (by have := (Finset.mem_Ico.mp hi).1; omega)]
    exact BI.Entails.refl _
  have h2 : (slots X W c 16 24 24 : sProp 𝕄) ⊢ bigSep (Finset.Ico 24 28) fun i => has c (srcS c i) (val X W i c) := by
    unfold slots
    refine bigSep_mono fun i hi => ?_
    have := Finset.mem_Ico.mp hi
    rw [slotAt_ready X W c 16 24 i (by omega) (by omega)]
    exact ready_has X W c i
  have e : Finset.Ico 12 24 ∪ Finset.Ico 24 28 = Finset.Ico 12 28 := by decide
  have h3 : (iprop((bigSep (Finset.Ico 12 24) fun i => has c (srcS c i) (val X W i c)) ∗ bigSep (Finset.Ico 24 28) fun i => has c (srcS c i) (val X W i c)) : sProp 𝕄)
      ⊢ has c oM (total X W) :=
    (Entails.of_eq (by rw [← e]; exact (bigSep_union (by decide)).symm)).trans (out_join (F := F) X W c)
  iintro ⟨H1, H2⟩
  iapply h3
  isplitl [H1]
  · iapply h1; iexact H1
  · iapply h2; iexact H2

/-- What the kernel leaves. -/
def left : sProp 𝕄 :=
  iprop((scratch c ∗ (bigSep (Finset.range 24) fun i => semVal (sendCell i c) 0) ∗ (bigSep (Finset.range 24) fun i => semVal (recvCell i c) 0)
      ∗ semVal (barCell c) 0)
    ∗ (∃ Wt : Waits sig Unit, owes (c : Thread nD τ) 0 Wt)
    ∗ has c xM (X c) ∗ has c wM (W c) ∗ has c oM (total X W))

theorem finish (K : Dev nD × Sm → ℕ) : (iprop(St X W c K 16 24 24 24 24 ∗ semVal (barCell c) 0) : sProp 𝕄) ⊢ left X W c := by
  unfold St left debt came went
  rw [owed_end, bigSep_sep']
  iintro ⟨⟨-, HO, Hx, Hw, -, -, -, Hcame, Hused, -, -, ⟨Hwent, Hback⟩, Hslots⟩, HB⟩
  isplitl [Hused Hwent Hcame HB]
  · isplitl [Hused]
    · iapply (loose_scratch (F := F) c)
      iapply (landing_join (F := F) c)
      iapply (used_lands (F := F) c)
      iexact Hused
    isplitl [Hwent]; · iexact Hwent
    isplitl [Hcame] <;> iassumption
  isplitl [HO]; · iexact HO
  isplitl [Hx]; · iexact Hx
  isplitl [Hw]; · iexact Hw
  iapply (output X W c)
  isplitl [Hback] <;> iassumption

/-- What a device starts with, besides its operands. -/
def start : sProp 𝕄 := iprop(∃ K, know X W K ∗ places c ∗ duties c ∗ promised c)

/-- What the kernel needs is there at the start. -/
theorem begin_intro :
    (iprop((start X W c ∗ scratch c) ∗ (∃ Wt : Waits sig Unit, owes (c : Thread nD τ) (owedAll c) Wt)
        ∗ has c xM (X c) ∗ has c wM (W c) ∗ loose c oM) : sProp 𝕄)
      ⊢ iprop(∃ K, Begin X W K c) := by
  have hc : (iprop((bigSep (Finset.range 24) fun i => atPos ER (recvCell i c) 0 ∅ 0) ∗ bigSep (Finset.range 24) fun i => cred (tallyAt (recvCell i c) () N)) : sProp 𝕄)
      = comes c 0 := by
    unfold comes; rw [← bigSep_sep', ← Finset.range_eq_Ico]
  unfold start places duties promised Begin gate rest
  iintro ⟨⟨⟨%K, HK, ⟨HaB, Houts, HaR⟩, ⟨HtB, Htoks⟩, HcB, HcR⟩, Hscr⟩, HO, Hx, Hw, Hout⟩
  iexists K
  isplitl [HK]; · iexact HK
  isplitl [HO HtB HaB HcB Hscr]
  · isplitl [HO]; · iexact HO
    isplitl [HtB]; · iexact HtB
    isplitl [HaB HcB]
    · isplitl [HaB] <;> iassumption
    iapply (landing_split (F := F) c)
    iapply (scratch_loose (F := F) c)
    iexact Hscr
  isplitl [Hx]; · iexact Hx
  isplitl [Hw]; · iexact Hw
  isplitl [Htoks]; · iexact Htoks
  isplitl [HaR HcR]
  · iapply (Entails.of_eq hc)
    isplitl [HaR] <;> iassumption
  isplitl [Houts]; · iexact Houts
  iapply (out_split (F := F) c)
  iexact Hout

/-- The kernel on one device, from what it starts with to what it leaves. -/
theorem kernel :
    (iprop((start X W c ∗ scratch c) ∗ (∃ Wt : Waits sig Unit, owes (c : Thread nD τ) (owedAll c) Wt)
        ∗ has c xM (X c) ∗ has c wM (W c) ∗ loose c oM) : sProp 𝕄)
      ⊢ run c (ops cc0_body) fun _ => left X W c := by
  refine (begin_intro X W c).trans ?_
  iintro ⟨%K, H⟩
  iapply ((body X W K c).trans (wp_mono _ _ _ fun _ => finish X W c K))
  iexact H

end Finish

end Cert.Exchange
-- ==== Proof.Launch.lean ====
/-
# The run

From the launch of the four kernels to the end of `@main`: every device's output array holds the whole result, its
operands are as they were, and every semaphore is at zero again.
-/
module

public import proofs.«01_k».proof.Proof.Finish
public import proofs.«01_k».proof.Proof.Gen.KernelIdeal.Points
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What is staged -/

/-- The two operands of device `c`, as its kernel sees them. -/
def xOf (c : Dev nD) : FVec F S2048x512 .f32 := (win0_0.blk t0_0).view.read (Elt F) (m ((c : Thread nD τ).loc main_arg0))
def wOf (c : Dev nD) : FVec F S512x2048 .f32 := (win0_1.blk t0_0).view.read (Elt F) (m ((c : Thread nD τ).loc main_arg1))

/-- What a device has before the kernel, and after it. -/
def Φ₀ (c : Dev nD) : sProp 𝕄 := iprop(start (xOf m) (wOf m) c ∗ scratch c)
def Φ₁ (c : Dev nD) : sProp 𝕄 :=
  iprop(scratch c ∗ (bigSep (Finset.range 24) fun i => semVal (sendCell i c) 0) ∗ (bigSep (Finset.range 24) fun i => semVal (recvCell i c) 0)
    ∗ semVal (barCell c) 0)

/-- The one pipeline of the launch: its windows are the two operands and the output, its grid has one point. -/
def dats (_ : Fin 1) (c : Dev nD) : Dat τ (Elt F) Unit ℕ UU ℕ cfg0 c where
  A w := m ((cfg0.win w).arr.view.loc (c : Thread nD τ))
  after w _ := match w with | ⟨0, _⟩ => xOf m c | ⟨1, _⟩ => wOf m c | ⟨2, _⟩ => total (xOf m) (wOf m)
  Φ t := match t with | ⟨0, _⟩ => Φ₀ m c | ⟨_ + 1, _⟩ => Φ₁ c
  q _ := fullShare
  owed t := match t with | ⟨0, _⟩ => owedAll c | ⟨_ + 1, _⟩ => 0

theorem before_x (c : Dev nD) (d) : (dats m 0 c).before (0 : Fin 3) t0_0 d = xOf m c := by
  unfold Dat.before; rw [if_pos (fetch0_0 t0_0)]; rfl
theorem before_w (c : Dev nD) (d) : (dats m 0 c).before (1 : Fin 3) t0_0 d = wOf m c := by
  unfold Dat.before; rw [if_pos (fetch0_1 t0_0)]; rfl

/-! ## The body -/

/-- What the launch hands the kernel, and what it wants back. -/
def bodyPre (c : Dev nD) : sProp 𝕄 :=
  iprop(Φ₀ m c ∗ (dats m 0 c).owesAt () t0_0.castSucc
    ∗ (∃ d, has c xM ((dats m 0 c).before (0 : Fin 3) t0_0 d))
    ∗ (∃ d, has c wM ((dats m 0 c).before (1 : Fin 3) t0_0 d))
    ∗ (∃ d, has c oM ((dats m 0 c).before (2 : Fin 3) t0_0 d)))
def bodyPost (c : Dev nD) : sProp 𝕄 :=
  iprop(Φ₁ c ∗ (dats m 0 c).owesAt () t0_0.succ ∗ has c xM (xOf m c) ∗ has c wM (wOf m c) ∗ has c oM (total (xOf m) (wOf m)))

theorem pre_intro (c : Dev nD) : (bodyPre m c : sProp 𝕄)
    ⊢ iprop((start (xOf m) (wOf m) c ∗ scratch c) ∗ (∃ Wt : Waits sig Unit, owes (c : Thread nD τ) (owedAll c) Wt)
        ∗ has c xM (xOf m c) ∗ has c wM (wOf m c) ∗ loose c oM) := by
  unfold bodyPre Φ₀ Dat.owesAt Pipeline.owesWithin
  simp only [before_x, before_w]
  iintro ⟨Hs, ⟨%Wt, -, HO⟩, ⟨%d0, Hx⟩, ⟨%d1, Hw⟩, %d2, Hout⟩
  isplitl [Hs]; · iexact Hs
  isplitl [HO]; · iexists Wt; iexact HO
  isplitl [Hx]; · iexact Hx
  isplitl [Hw]; · iexact Hw
  iapply (loose_intro c oM _)
  iexact Hout

theorem post_intro (c : Dev nD) : (left (xOf m) (wOf m) c : sProp 𝕄) ⊢ bodyPost m c := by
  unfold left bodyPost Φ₁ Dat.owesAt Pipeline.owesWithin
  iintro ⟨Hs, ⟨%Wt, HO⟩, H⟩
  isplitl [Hs]; · iexact Hs
  isplitl [HO]
  · iexists Wt
    isplitr; · ipureintro; exact fun _ _ => Or.inl trivial
    iexact HO
  iexact H

set_option maxRecDepth 20000 in
/-- The kernel on one device does what the launch asks of it. -/
theorem body_obligation (c : Dev nD) : BodyObligation (dats (F := F) m 0 c) (defs₀ (F := F)) 𝒱₀ () Set.univ := fun t => by
  rw [fin_N0 t]
  rw [bigSep_W0, bigSep_W0]
  show bodyPre m c ⊢ run c (ops cc0_body) fun _ => bodyPost m c
  exact (pre_intro m c).trans ((kernel (xOf m) (wOf m) c).trans (wp_mono _ _ _ fun _ => post_intro m c))

/-! ## The launch -/

theorem own_facts : Pipeline.OwnSemFacts cfg0.spec ownSem where
  isScoped := by rintro ⟨_ | _, i⟩ <;> revert i <;> decide
  inj := ownSem_injective
  disj := by rintro ⟨_ | _, i⟩ <;> revert i <;> decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' (xOf m) (wOf m) c)
      ⊢ (|={Set.univ}=> iprop(start (xOf m) (wOf m) c ∗ emp) : sProp 𝕄) := by
  unfold G' start know cells
  iintro ⟨-, Hlev, Hcr, -, ⟨%K, ⟨HI, HR⟩, Hp, Hd⟩⟩
  ihave Hc := (creds (F := F) c) $$ Hcr
  imodintro
  isplitl
  · iexists K
    isplitl [HI HR Hlev]
    · isplitl [HI]; · iexact HI
      isplitl [HR] <;> iassumption
    isplitl [Hp]; · iexact Hp
    isplitl [Hd] <;> iassumption
  · iempintro

theorem enter (c : Dev nD) :
    iprop(start (xOf m) (wOf m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = Φ₁ c from rfl, scopedRest0_eq, own_eq, unscoped_eq]
  unfold Φ₁ scratch
  iintro ⟨Hr, HS, HR, HB⟩
  isplitl [HB]; · iexact HB
  isplitl [HS HR]
  · isplitl [HS] <;> iassumption
  iexact Hr

theorem waits (c : Dev nD) : (levAts L lv : sProp 𝕄) ⊢ Pipeline.cellsWaits cfgs (dats m) () 0 c :=
  Pipeline.cellsWaits_intro cfgs (dats m) () 0 c fun w s t => by
    have h : lvOf (.dma (((cfgs 0).win w).sem s)) = 0 := by fin_cases w <;> fin_cases s <;> decide
    rcases t with ⟨_ | _, ht⟩
    · exact mayWait_all c _ h
    · refine (mayWait_of c (.dma (((cfgs 0).win w).sem s)) 24 (by rw [h]; decide)).trans ?_
      rw [owed_end]
      exact .rfl

/-! ## The run -/

/-- What an array of device `c` holds in the end. -/
def final (c : Dev nD) (w : Fin cfg0.W) : Buf (Elt F) ((cfg0.win w).arr.view.loc (c : Thread nD τ)) := (dats m 0 c).arrAt w cfg0.N

set_option maxRecDepth 8000 in
/-- For any float values and from any memory with all semaphores at zero, every fair execution of `@main` on the four
    devices ends, with every array as `final` says and every semaphore at zero. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := fun c => body_obligation m c) (hne := block_pos0) (harr := arr_whole0) (hstage := stage_whole0) (hshare := share_eq m)
    (hdistinct := winFacts0.arr_inj)
    (O₀ := owedAll) (howed₀ := fun _ => rfl) (howedN := fun _ => rfl)
    (L := L) (lv := lv) (hL := L_of_ne) (hwaits := waits m)
    (G := G (xOf m) (wOf m)) (G' := G' (xOf m) (wOf m)) (u₀ := u₀)
    (hu₀ := by
      unfold u₀
      iintro H
      ihave H := (ownU_pair _ _) $$ H
      icases H with ⟨HP, HX⟩
      imod (fund_all (xOf m) (wOf m)) $$ HX with HG
      imodintro
      isplitl [HP] <;> iassumption)
    (hglob := glob (xOf m) (wOf m))
    (hA := fun _ _ => rfl) (hpf := fun _ k => k.elim0)
    (X := start (xOf m) (wOf m)) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands stay as they were. -/
theorem final_x (c : Dev nD) : final m c (0 : Fin 3) = m ((c : Thread nD τ).loc main_arg0) := (dats m 0 c).arrAt_in (0 : Fin 3) rfl _
theorem final_w (c : Dev nD) : final m c (1 : Fin 3) = m ((c : Thread nD τ).loc main_arg1) := (dats m 0 c).arrAt_in (1 : Fin 3) rfl _

/-- The output holds the result. -/
theorem final_out (c : Dev nD) : final m c (2 : Fin 3) = total (xOf m) (wOf m) := by
  refine (dats m 0 c).arrAt_eq_of_after_last (2 : Fin 3) t0_0 (by decide +kernel) _ fun j => ?_
  blk_simp
  rfl

/-- The one block of each operand begins at its beginning. -/
theorem idx : ∀ t : Fin cfg0.N, win0_0.index t = ![0, 0] ∧ win0_1.index t = ![0, 0] :=
  (by decide +kernel : ∀ t : Fin grid0.N, _)

/-- The kernel sees its device's operands whole. -/
theorem xOf_eq (c : Dev nD) : xOf m c = m ((c : Thread nD τ).loc main_arg0) := by
  blk_ext! [xOf, idx t0_0]
theorem wOf_eq (c : Dev nD) : wOf m c = m ((c : Thread nD τ).loc main_arg1) := by
  blk_ext! [wOf, idx t0_0]

end Cert.Exchange
-- ==== Proof.Ref.lean ====
/-
# The reference's run

The reference is one operation on one device: the product of the two whole matrices. It leaves its operands alone.
-/
module

public import proofs.«01_k».proof.ReferenceIdeal
public import proofs.«01_k».proof.Proof.Gen.ReferenceIdeal
public import Idealize.ShloMosaic.Lib.StableHlo.Run
public import Idealize.ShloMosaic.Lib.StackMember

@[expose] public section

noncomputable section

namespace Cert.Exchange.Reference

open Cert.ReferenceIdeal Cert.ReferenceIdeal.Gen
open Idealize.ShloMosaic Idealize.ShloMosaic.TcCoe Idealize.ShloMosaic.StableHlo Idealize.ShloMosaic.ValueIdx Idealize.SL.Sem

variable {F : FTy → Type} [FloatOps F]

/-- The product of two whole matrices. -/
abbrev product (A B : FVec F S2048x2048 .f32) : FVec F S2048x2048 .f32 :=
  Host.dotGeneral dot_S2048x2048_S2048x2048_S2048x2048_1_0_0_1_n_n none A B

/-- The only operation of `@main`. -/
abbrev line : List (HloOp τ sig (Elt F)) := [binary main_arg0 main_arg1 main_v0 product]

theorem main_line (c : Dev nD) : main (F := F) c = seq line := rfl

theorem no_scoped_refs : (Finset.univ.filter fun b : Ref sig .tc => b.isScoped) = ∅ := by decide
theorem no_scoped_sems : (Finset.univ.filter fun sm : SemLoc sig => sm.isScoped .tc) = ∅ := by decide

/-- What the line leaves in the result and in the two operands. -/
theorem result_after (V : Valuation τ sig (Elt F)) :
    after line V (main_v0 : DevRef τ sig) = product (V (main_arg0 : DevRef τ sig)) (V (main_arg1 : DevRef τ sig)) := by
  after_results
theorem left_after (V : Valuation τ sig (Elt F)) : after line V (main_arg0 : DevRef τ sig) = V (main_arg0 : DevRef τ sig) := by
  after_results
theorem right_after (V : Valuation τ sig (Elt F)) : after line V (main_arg1 : DevRef τ sig) = V (main_arg1 : DevRef τ sig) := by
  after_results

/-- Every execution of the reference ends with the product in its result, its operands as they were, and every
    semaphore at zero. -/
theorem runs (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v0)
            = product (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono
    (fun r h => ⟨fun c => ⟨(h c main_v0).trans (result_after _), (h c main_arg0).trans (left_after _), (h c main_arg1).trans (right_after _)⟩,
      sem_eq_zero_of_no_sems (by decide) r.2⟩)
    (run_seq no_scoped_refs no_scoped_sems defs main (fun _ => line) main_line (fun _ => binary_bufs_sub ..) m ρ)

/-- An entry of the product is the sum over the inner index of the products of the entries. -/
theorem product_apply (A B : FVec Ideal S2048x2048 .f32) (p q : Fin 2048) :
    product A B (ix2 p q) = ∑ k : Fin 2048, A (ix2 p k) * B (ix2 k q) :=
  StackMember.dotGeneral_plain_apply none A B p q

end Cert.Exchange.Reference
-- ==== Proof.Value.lean ====
/-
# The value

In exact arithmetic the partial products that travel round the ring add up to the product of the whole matrices: a
device's partial product of a row takes the inner indices of its block, a finished sum has been at all four devices,
and the four blocks make up the whole range.
-/
module

public import proofs.«01_k».proof.Proof.Whole
public import proofs.«01_k».proof.Proof.Ref
public import Idealize.ShloMosaic.Lib.MatmulPlain
public import Idealize.ShloMosaic.Lib.Layout
public import Mathlib.Algebra.BigOperators.Fin

@[expose] public section

noncomputable section

namespace Cert.Exchange

open Cert.KernelIdeal Cert.KernelIdeal.Gen
open Idealize.ShloMosaic hiding ix2
open Idealize.ShloMosaic.TcCoe Idealize.ShloMosaic.ValueIdx
open scoped BigOperators

section Sum
variable {F : FTy → Type} [FloatOps F]
variable (X : Dev nD → FVec F S2048x512 .f32) (W : Dev nD → FVec F S512x2048 .f32)

/-- A finished sum has taken the partial products of all four devices, the last one of the device it ends at. -/
theorem done_eq (i : ℕ) (r : Dev nD) :
    done X W i r = addf (prod X W i r (rot i 3 r)) (addf (prod X W i r (rot i 2 r)) (addf (prod X W i r (rot i 1 r)) (prod X W i r r))) := by
  have back : ∀ (s t : ℕ), (s + t) % 4 = 0 → rot i s (rot i t r) = r := fun s t h => by
    rw [rot_rot, rot_congr i (show (s + t) % 4 = 0 % 4 from h), rot_zero]
  have next : ∀ (t u : ℕ), (3 + t) % 4 = u % 4 → bwd i (rot i t r) = rot i u r := fun t u h => by
    rw [bwd, rot_rot, rot_congr i h]
  have up : ∀ (k : ℕ) (c : Dev nD), k < 3 →
      vals X W i (k + 1) c = addf (prod X W i (rot i (3 * (k + 1)) c) c) (vals X W i k (bwd i c)) := fun k c h => if_pos h
  have first : ∀ c : Dev nD, vals X W i 0 c = prod X W i (rot i 0 c) c := fun _ => rfl
  unfold done
  rw [up 2 _ (by decide), back _ _ rfl, next 3 2 rfl, up 1 _ (by decide), back _ _ rfl, next 2 1 rfl, up 0 _ (by decide), back _ _ rfl,
    next 1 0 rfl, rot_zero, first, rot_zero]

end Sum

/-- Going round the ring from any device, in either direction, meets every device once. -/
theorem sum_ring (i : ℕ) (r : Dev nD) (f : Dev nD → EReal) :
    f (rot i 3 r) + (f (rot i 2 r) + (f (rot i 1 r) + f r)) = ∑ c : Dev nD, f c := by
  have e : ∑ c : Dev nD, f c = f 0 + f 1 + f 2 + f 3 := Fin.sum_univ_four f
  rw [e]
  have hr : r.val < 4 := r.isLt
  have at_ : ∀ (s : ℕ) (d : Dev nD), (r.val + (if i % 2 = 0 then s else 3 * s)) % 4 = d.val → rot i s r = d := fun s d h => Fin.ext h
  rcases Nat.mod_two_eq_zero_or_one i with h | h <;> simp only [h] at at_ <;> fin_cases r
  · rw [at_ 3 3 rfl, at_ 2 2 rfl, at_ 1 1 rfl]; show f 3 + (f 2 + (f 1 + f 0)) = _; ac_rfl
  · rw [at_ 3 0 rfl, at_ 2 3 rfl, at_ 1 2 rfl]; show f 0 + (f 3 + (f 2 + f 1)) = _; ac_rfl
  · rw [at_ 3 1 rfl, at_ 2 0 rfl, at_ 1 3 rfl]; show f 1 + (f 0 + (f 3 + f 2)) = _; ac_rfl
  · rw [at_ 3 2 rfl, at_ 2 1 rfl, at_ 1 0 rfl]; show f 2 + (f 1 + (f 0 + f 3)) = _; ac_rfl
  · rw [at_ 3 1 rfl, at_ 2 2 rfl, at_ 1 3 rfl]; show f 1 + (f 2 + (f 3 + f 0)) = _; ac_rfl
  · rw [at_ 3 2 rfl, at_ 2 3 rfl, at_ 1 0 rfl]; show f 2 + (f 3 + (f 0 + f 1)) = _; ac_rfl
  · rw [at_ 3 3 rfl, at_ 2 0 rfl, at_ 1 1 rfl]; show f 3 + (f 0 + (f 1 + f 2)) = _; ac_rfl
  · rw [at_ 3 0 rfl, at_ 2 1 rfl, at_ 1 2 rfl]; show f 0 + (f 1 + (f 2 + f 3)) = _; ac_rfl

/-- The whole range of the inner index, block by block. -/
theorem sum_blocks (f : Fin 2048 → EReal) :
    ∑ k : Fin 2048, f k = ∑ c : Dev nD, ∑ k : Fin 512, f ⟨c.val * 512 + k.val, by have : c.val < 4 := c.isLt; omega⟩ := by
  rw [← Equiv.sum_comp (finProdFinEquiv (m := 4) (n := 512)) f, Fintype.sum_prod_type]
  refine Finset.sum_congr rfl fun c _ => Finset.sum_congr rfl fun k _ => congrArg f (Fin.ext ?_)
  show k.val + 512 * c.val = c.val * 512 + k.val
  omega

section Exact
variable (X : Dev nD → FVec Ideal S2048x512 .f32) (W : Dev nD → FVec Ideal S512x2048 .f32)

/-- The row of `x` that an entry of a slot's partial product is of. -/
theorem xrows_apply (i : ℕ) (r c : Dev nD) (p : Fin 128) (k : Fin 512) (row : Fin 2048)
    (h : 512 * r.val + 256 * (i % 2) + 128 * (i / 2 % 2) + p.val = row.val) : xrows X i r c (ix2 p k) = X c (ix2 row k) := by
  unfold xrows
  congr 1
  funext a
  apply Fin.ext
  refine (ValueKit.rect_emb_unit_val _ _ _ _ _).trans ?_
  fin_cases a
  · exact h
  · exact Nat.zero_add _

/-- An entry of a partial product: the sum over the device's own block of the inner index. -/
theorem prod_apply (i : ℕ) (r c : Dev nD) (p : Fin 128) (q row : Fin 2048)
    (h : 512 * r.val + 256 * (i % 2) + 128 * (i / 2 % 2) + p.val = row.val) :
    prod X W i r c (ix2 p q) = ∑ k : Fin 512, X c (ix2 row k) * W c (ix2 k q) := by
  unfold prod k0_pay1
  rw [shapeCast_self, shapeCast_self]
  refine (Ideal.matmul_plain_apply none (xrows X i r c) (W c) _ p q).trans ?_
  refine (congrArg (· + _) Ideal.ofBits_zero_f32).trans ((zero_add _).trans ?_)
  exact Finset.sum_congr rfl fun k _ => congrArg (· * W c (ix2 k q)) (xrows_apply X i r c p k row h)

/-- An entry of the output: the sum over all devices of their blocks' sums. -/
theorem total_apply (p q : Fin 2048) : total X W (ix2 p q) = ∑ c : Dev nD, ∑ k : Fin 512, X c (ix2 p k) * W c (ix2 k q) := by
  have hp := p.isLt
  have hr : 512 * (p.val / 512) + 256 * ((p.val / 256 % 2 + 2 * (p.val / 128 % 2)) % 2)
      + 128 * ((p.val / 256 % 2 + 2 * (p.val / 128 % 2)) / 2 % 2) + p.val % 128 = p.val := by
    have two : ∀ a b : ℕ, a < 2 → b < 2 → (a + 2 * b) % 2 = a ∧ (a + 2 * b) / 2 % 2 = b := fun a b _ _ => by omega
    obtain ⟨h0, h1⟩ := two _ _ (Nat.mod_lt (p.val / 256) (by decide)) (Nat.mod_lt (p.val / 128) (by decide))
    rw [h0, h1]
    omega
  have e : total X W (ix2 p q) = done X W (p.val / 256 % 2 + 2 * (p.val / 128 % 2)) ⟨p.val / 512, by show _ < 4; omega⟩
      (ix2 (⟨p.val % 128, Nat.mod_lt _ (by decide)⟩ : Fin 128) q) := by
    unfold total
    congr 1
    funext a
    fin_cases a <;> rfl
  rw [e, done_eq]
  refine Eq.trans ?_ (sum_ring (p.val / 256 % 2 + 2 * (p.val / 128 % 2)) ⟨p.val / 512, by show _ < 4; omega⟩ _)
  refine congrArg₂ (· + ·) (prod_apply X W _ _ _ _ q p hr) (congrArg₂ (· + ·) (prod_apply X W _ _ _ _ q p hr)
    (congrArg₂ (· + ·) (prod_apply X W _ _ _ _ q p hr) (prod_apply X W _ _ _ _ q p hr)))

/-- Where the devices hold the blocks of two whole matrices, the output is the product of these. -/
theorem total_eq (A B : FVec Ideal S2048x2048 .f32)
    (hx : ∀ c : Dev nD, X c = Layout.block ⟨2, ![2048, 512]⟩ ⟨2, ![2048, 2048]⟩ 1 4 c A)
    (hw : ∀ c : Dev nD, W c = Layout.block ⟨2, ![512, 2048]⟩ ⟨2, ![2048, 2048]⟩ 0 4 c B) :
    total X W = Reference.product A B := by
  have ex : ∀ (c : Dev nD) (p : Fin 2048) (k : Fin 512),
      X c (ix2 p k) = A (ix2 p ⟨c.val * 512 + k.val, by have : c.val < 4 := c.isLt; omega⟩) := fun c p k => by
    rw [hx, Layout.block_apply]
    congr 1; funext a; apply Fin.ext; fin_cases a <;> rfl
  have ew : ∀ (c : Dev nD) (k : Fin 512) (q : Fin 2048),
      W c (ix2 k q) = B (ix2 ⟨c.val * 512 + k.val, by have : c.val < 4 := c.isLt; omega⟩ q) := fun c k q => by
    rw [hw, Layout.block_apply]
    congr 1; funext a; apply Fin.ext; fin_cases a <;> rfl
  funext x
  obtain ⟨p, q, rfl⟩ : ∃ (p q : Fin 2048), x = ix2 p q := ⟨x 0, x 1, by funext a; fin_cases a <;> rfl⟩
  rw [total_apply]
  refine Eq.trans ?_ (Reference.product_apply A B p q).symm
  rw [sum_blocks]
  exact Finset.sum_congr rfl fun c _ => Finset.sum_congr rfl fun k _ => by rw [ex, ew]

end Exact

end Cert.Exchange
-- ==== Proof.Same.lean ====
/-
# One program, twice

The kernel and its idealization are the same program: the pass rewrote nothing. What is proved of the one, for any
float values, is proved of the other.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Exchange

open Idealize.ShloMosaic Idealize.SL.Sem

variable {F : FTy → Type} [FloatOps F]

/-- The same kernel body, -/
theorem same_body : @Cert.Kernel.cc0_body F _ _ = @Cert.KernelIdeal.cc0_body F _ _ := rfl

/-- which the two programs run at the same buffers, -/
theorem same_kernels : @Cert.Kernel.defs₀ F _ _ = @Cert.KernelIdeal.defs₀ F _ _ := by
  unfold Cert.Kernel.defs₀ Cert.KernelIdeal.defs₀
  refine congrArg Defs.onTc ?_
  funext l a
  match l, a with
  | 0, (t, s) => rfl

/-- in the same pipeline. -/
theorem same_defs : @Cert.Kernel.defs F _ _ = @Cert.KernelIdeal.defs F _ _ := by
  unfold Cert.Kernel.defs Cert.KernelIdeal.defs
  rw [same_kernels]
  rfl

end Cert.Exchange
-- ==== Proof.lean ====
/-
# The certificate

The five claims, from the run of the kernel (`Proof/Launch.lean`), the run of the reference (`Proof/Ref.lean`) and the
value of the kernel's output (`Proof/Value.lean`). The kernel and its idealization are the same program
(`Proof/Same.lean`), and the run is proved for any float values, so one proof gives both.
-/
module

public import proofs.«01_k».proof.Defs
public import proofs.«01_k».proof.Proof.Gen.Kernel
public import proofs.«01_k».proof.Proof.Launch
public import proofs.«01_k».proof.Proof.Value
public import proofs.«01_k».proof.Proof.Same

@[expose] public section

noncomputable section

namespace Cert.Proof

open Idealize.ShloMosaic Idealize.ShloMosaic.TcCoe Idealize.SL.Sem
open Cert.KernelIdeal Cert.KernelIdeal.Gen Cert.Exchange

section Kernel
variable {F : FTy → Type} [FloatOps F]

/-- For any float values every execution of the kernel ends; then the output of every device is the sum of the partial
    products, the operands are as they were, and every semaphore is at zero. -/
theorem kernel_runs (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = total (xOf m) (wOf m)
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono
    (fun _ h => ⟨fun c => ⟨(h.1 c (2 : Fin 3)).trans (final_out m c), (h.1 c (0 : Fin 3)).trans (final_x m c),
      (h.1 c (1 : Fin 3)).trans (final_w m c)⟩, h.2⟩)
    (run_main m ρ)

/-- So it leaves its operands alone and is quiescent at the end. -/
theorem kernel_quiet (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono (fun _ h => ⟨fun c => (h.1 c).2, h.2⟩) (kernel_runs m ρ)

end Kernel

/-- The kernel as it was written runs, on words, and is quiescent at the end. -/
theorem kernel_quiescent : Cert.quiescent_Kernel (hKernel := Cert.Kernel.Gen.facts) := fun m g _ => by
  rw [same_defs]
  exact kernel_quiet (F := Bits) m g

/-- So does its idealization, in exact arithmetic. -/
theorem ideal_quiescent : Cert.quiescent_KernelIdeal (hKernelIdeal := Cert.KernelIdeal.Gen.facts) := fun m g _ =>
  kernel_quiet (F := Ideal) m g

/-- And so does the reference. -/
theorem reference_quiescent : Cert.quiescent_ReferenceIdeal (hReferenceIdeal := Cert.ReferenceIdeal.Gen.facts) := fun m g _ =>
  (θ_run (Cert.ReferenceIdeal.defs (F := Ideal)) _ _).mono (fun _ h => ⟨fun c => (h.1 c).2, h.2⟩) (Reference.runs (F := Ideal) m g)

/-- In exact arithmetic, where the devices hold the blocks of the reference's operands, every device's output is the
    reference's result. -/
theorem same_result : Cert.algebraic_KernelIdeal_ReferenceIdeal (hKernelIdeal := Cert.KernelIdeal.Gen.facts)
    (hReferenceIdeal := Cert.ReferenceIdeal.Gen.facts) := fun m g m' g' _ hblocks =>
  ⟨Reference.product (F := Ideal) (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run (Cert.KernelIdeal.defs (F := Ideal)) _ _).mono
      (fun _ h c => ⟨(h.1 c).1.trans (total_eq (xOf m) (wOf m) _ _ (fun d => (xOf_eq m d).trans (hblocks d).1)
        (fun d => (wOf_eq m d).trans (hblocks d).2)), (h.1 c).2⟩)
      (kernel_runs (F := Ideal) m g),
    (θ_run (Cert.ReferenceIdeal.defs (F := Ideal)) _ _).mono (fun _ h => h.1 0) (Reference.runs (F := Ideal) m' g')⟩

theorem claim : Cert.Claim :=
  ⟨Cert.Kernel.Gen.facts, Cert.KernelIdeal.Gen.facts, Cert.ReferenceIdeal.Gen.facts, kernel_quiescent, ideal_quiescent,
    reference_quiescent, trivial, same_result⟩

end Cert.Proof

end
